-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_bounded [hPre_gamma_bounded : Cert.Pre_gamma_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_bounded [hPre_gamma_bounded : Cert.Pre_gamma_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gamma_bounded [hKernelIdeal : Cert.KernelIdeal.Facts] [hPre_gamma_bounded : Cert.Pre_gamma_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gamma_bounded [hReferenceIdeal : Cert.ReferenceIdeal.Facts] [hPre_gamma_bounded : Cert.Pre_gamma_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gamma_bounded [hKernelIdeal : Cert.KernelIdeal.Facts] [hReferenceIdeal : Cert.ReferenceIdeal.Facts] [hPre_gamma_bounded : Cert.Pre_gamma_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v74_0) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v74_1) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gamma_bounded : Cert.Pre_gamma_bounded.Facts),
    quiescent_Kernel (hKernel := hKernel)
    ∧ quiescent_KernelIdeal (hKernelIdeal := hKernelIdeal)
    ∧ quiescent_KernelIdeal_pre_gamma_bounded (hKernelIdeal := hKernelIdeal) (hPre_gamma_bounded := hPre_gamma_bounded)
    ∧ quiescent_ReferenceIdeal (hReferenceIdeal := hReferenceIdeal)
    ∧ quiescent_ReferenceIdeal_pre_gamma_bounded (hReferenceIdeal := hReferenceIdeal) (hPre_gamma_bounded := hPre_gamma_bounded)
    ∧ preserves_Kernel_KernelIdeal
    ∧ algebraic_KernelIdeal_ReferenceIdeal_pre_gamma_bounded (hKernelIdeal := hKernelIdeal) (hReferenceIdeal := hReferenceIdeal) (hPre_gamma_bounded := hPre_gamma_bounded)
-- ==== Pre_gamma_bounded.lean ====
abbrev S2x768x14336 : Shape := ⟨3, ![2, 768, 14336]⟩
abbrev S14336 : Shape := ⟨1, ![14336]⟩
abbrev S_ : Shape := ⟨0, ![]⟩

class Facts : Prop where
  bcast_S_S14336 : S_.BroadcastsInDim S14336 (![] : Fin 0 → Fin S14336.rank)

variable [Facts]

def fn {F : FTy → Type} [FloatOps F] (main_arg0 : FVec F S2x768x14336 .bf16) (main_arg1 : FVec F S2x768x14336 .bf16) (main_arg2 : FVec F S14336 .f32) : IVec S14336 1 :=
  let main_v0 : FVec F S14336 .f32 := Host.absf main_arg2
  let main_cst : FVec F S_ .f32 := constant S_ .f32 0x7F61B1E6#32
  let main_v1 : FVec F S14336 .f32 := broadcastInDim S14336 ![] bcast_S_S14336 main_cst
  let main_v2 : IVec S14336 1 := cmpf .ole main_v0 main_v1
  main_v2
-- ==== Kernel.lean ====
abbrev S2x768x14336 : Shape := ⟨3, ![2, 768, 14336]⟩
abbrev S14336 : Shape := ⟨1, ![14336]⟩
abbrev S1536x14336 : Shape := ⟨2, ![1536, 14336]⟩
abbrev S1x14336 : Shape := ⟨2, ![1, 14336]⟩
abbrev S112x1536 : Shape := ⟨2, ![112, 1536]⟩
abbrev S14336x1536 : Shape := ⟨2, ![14336, 1536]⟩
abbrev S12x14336 : Shape := ⟨2, ![12, 14336]⟩
abbrev S128x14336 : Shape := ⟨2, ![128, 14336]⟩
abbrev S112x128 : Shape := ⟨2, ![112, 128]⟩
abbrev S14336x128 : Shape := ⟨2, ![14336, 128]⟩
abbrev S128x2048 : Shape := ⟨2, ![128, 2048]⟩
abbrev S128x128 : Shape := ⟨2, ![128, 128]⟩
abbrev S112x16x128 : Shape := ⟨3, ![112, 16, 128]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S16x128 : Shape := ⟨2, ![16, 128]⟩
abbrev S1x12x128 : Shape := ⟨3, ![1, 12, 128]⟩
abbrev S12x128 : Shape := ⟨2, ![12, 128]⟩
abbrev S1536x112 : Shape := ⟨2, ![1536, 112]⟩
abbrev S14336x12 : Shape := ⟨2, ![14336, 12]⟩

abbrev nBuf : Space → Nat
  | .hbm => 13
  | .vmem => 21
  | .smem => 0
  | _ => 0

abbrev bufTy : (tb : Table) → Fin (tcTables nBuf tb) → BufTy
  | .hbm, ⟨0, _⟩ => ⟨S2x768x14336, .bf16⟩
  | .hbm, ⟨1, _⟩ => ⟨S2x768x14336, .bf16⟩
  | .hbm, ⟨2, _⟩ => ⟨S14336, .f32⟩
  | .hbm, ⟨3, _⟩ => ⟨S1536x14336, .bf16⟩
  | .hbm, ⟨4, _⟩ => ⟨S1536x14336, .bf16⟩
  | .hbm, ⟨5, _⟩ => ⟨S1x14336, .f32⟩
  | .hbm, ⟨6, _⟩ => ⟨S1536x14336, .bf16⟩
  | .hbm, ⟨7, _⟩ => ⟨S1536x14336, .fp8e4m3⟩
  | .hbm, ⟨8, _⟩ => ⟨S112x1536, .f32⟩
  | .hbm, ⟨9, _⟩ => ⟨S14336x1536, .fp8e4m3⟩
  | .hbm, ⟨10, _⟩ => ⟨S12x14336, .f32⟩
  | .hbm, ⟨11, _⟩ => ⟨S1536x112, .f32⟩
  | .hbm, ⟨12, _⟩ => ⟨S14336x12, .f32⟩
  | .local _ .vmem, ⟨0, _⟩ => ⟨S128x14336, .bf16⟩
  | .local _ .vmem, ⟨1, _⟩ => ⟨S128x14336, .bf16⟩
  | .local _ .vmem, ⟨2, _⟩ => ⟨S128x14336, .bf16⟩
  | .local _ .vmem, ⟨3, _⟩ => ⟨S128x14336, .bf16⟩
  | .local _ .vmem, ⟨4, _⟩ => ⟨S1x14336, .f32⟩
  | .local _ .vmem, ⟨5, _⟩ => ⟨S128x14336, .bf16⟩
  | .local _ .vmem, ⟨6, _⟩ => ⟨S128x14336, .bf16⟩
  | .local _ .vmem, ⟨7, _⟩ => ⟨S128x14336, .fp8e4m3⟩
  | .local _ .vmem, ⟨8, _⟩ => ⟨S128x14336, .fp8e4m3⟩
  | .local _ .vmem, ⟨9, _⟩ => ⟨S112x128, .f32⟩
  | .local _ .vmem, ⟨10, _⟩ => ⟨S112x128, .f32⟩
  | .local _ .vmem, ⟨11, _⟩ => ⟨S14336x128, .fp8e4m3⟩
  | .local _ .vmem, ⟨12, _⟩ => ⟨S14336x128, .fp8e4m3⟩
  | .local _ .vmem, ⟨13, _⟩ => ⟨S12x14336, .f32⟩
  | .local _ .vmem, ⟨14, _⟩ => ⟨S128x2048, .f32⟩
  | .local _ .vmem, ⟨15, _⟩ => ⟨S128x128, .f32⟩
  | .local _ .vmem, ⟨16, _⟩ => ⟨S128x128, .f32⟩
  | .local _ .vmem, ⟨17, _⟩ => ⟨S128x2048, .bf16⟩
  | .local _ .vmem, ⟨18, _⟩ => ⟨S128x2048, .f32⟩
  | .local _ .vmem, ⟨19, _⟩ => ⟨S112x128, .f32⟩
  | .local _ .vmem, ⟨20, _⟩ => ⟨S112x16x128, .f32⟩
  | _, _ => ⟨S2x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32_1 : BitVec 32 := 0#32
  let c7_i32 : BitVec 32 := 7#32
  let v4 : BitVec 32 := Scalar.addi c0_i32_1 c7_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c2048_i32 : BitVec 32 := 2048#32
  let v29 : BitVec 32 := Scalar.muli arg16 c2048_i32
  v29
def k0_off1 (k0_t1 : Fin k0_t1_loop.trips) : Fin 2 → Nat :=
  let c0_17 : Index := 0#32
  let c0_i32_1 : BitVec 32 := 0#32
  let c1_i32 : BitVec 32 := 1#32
  let arg16 : BitVec 32 := Scf.iv c0_i32_1 c1_i32 k0_t1
  let c2048_i32 : BitVec 32 := 2048#32
  let v29 : BitVec 32 := Scalar.muli arg16 c2048_i32
  let v30 : BitVec 32 := v29
  let v31 : Index := Scalar.indexCast v30
  ![0, v31.toNat]
@[reducible] def k0_t2_loop : Scf.Loop 32 :=
  let c0_i32_8 : BitVec 32 := 0#32
  let c7_i32_9 : BitVec 32 := 7#32
  let v23 : BitVec 32 := Scalar.addi c0_i32_8 c7_i32_9
  let c1_i32_10 : BitVec 32 := 1#32
  ⟨c0_i32_8, v23, c1_i32_10⟩
def k0_mult2 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c2048_i32 : BitVec 32 := 2048#32
  let v29 : BitVec 32 := Scalar.muli arg16 c2048_i32
  v29
def k0_off2 (k0_t2 : Fin k0_t2_loop.trips) (c0_i32_17 : BitVec 32) : Fin 2 → Nat :=
  let c0_18 : Index := 0#32
  let c0_i32_8 : BitVec 32 := 0#32
  let c1_i32_10 : BitVec 32 := 1#32
  let arg16 : BitVec 32 := Scf.iv c0_i32_8 c1_i32_10 k0_t2
  let c2048_i32 : BitVec 32 := 2048#32
  let v29 : BitVec 32 := Scalar.muli arg16 c2048_i32
  let v30 : BitVec 32 := v29
  let v31 : BitVec 32 := Scalar.addi v30 c0_i32_17
  let v32 : Index := Scalar.indexCast v31
  ![0, v32.toNat]
def k0_off3 (k0_t2 : Fin k0_t2_loop.trips) (c0_i32_17 : BitVec 32) : Fin 2 → Nat :=
  let c0_21 : Index := 0#32
  let c0_i32_8 : BitVec 32 := 0#32
  let c1_i32_10 : BitVec 32 := 1#32
  let arg16 : BitVec 32 := Scf.iv c0_i32_8 c1_i32_10 k0_t2
  let c2048_i32 : BitVec 32 := 2048#32
  let v29 : BitVec 32 := Scalar.muli arg16 c2048_i32
  let v30 : BitVec 32 := v29
  let v31 : BitVec 32 := Scalar.addi v30 c0_i32_17
  let v38 : Index := Scalar.indexCast v31
  ![0, v38.toNat]
def k0_off4 (i : grid0.Coords) (k0_t2 : Fin k0_t2_loop.trips) (c0_i32_34 : BitVec 32) : Fin 3 → Nat :=
  let c0_i32_8 : BitVec 32 := 0#32
  let c1_i32_10 : BitVec 32 := 1#32
  let arg16 : BitVec 32 := Scf.iv c0_i32_8 c1_i32_10 k0_t2
  let c16_i32 : BitVec 32 := 16#32
  let v109 : BitVec 32 := Scalar.muli arg16 c16_i32
  let v110 : BitVec 32 := Scalar.addi v109 c0_i32_34
  let v111 : Index := Scalar.indexCast v110
  let arg0 : BitVec 32 := BitVec.ofNat 32 (i 0).val
  let v112 : Index := Scalar.indexCast arg0
  let c0_35 : Index := 0#32
  ![v111.toNat, v112.toNat, 0]
def k0_mult3 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c16_i32_431 : BitVec 32 := 16#32
  let v1449 : BitVec 32 := Scalar.muli arg16 c16_i32_431
  v1449
def k0_off5 (k0_t2 : Fin k0_t2_loop.trips) : Fin 2 → Nat :=
  let c0_i32_8 : BitVec 32 := 0#32
  let c1_i32_10 : BitVec 32 := 1#32
  let arg16 : BitVec 32 := Scf.iv c0_i32_8 c1_i32_10 k0_t2
  let c16_i32_431 : BitVec 32 := 16#32
  let v1449 : BitVec 32 := Scalar.muli arg16 c16_i32_431
  let v1450 : BitVec 32 := v1449
  let v1451 : Index := Scalar.indexCast v1450
  let c0_432 : Index := 0#32
  ![v1451.toNat, 0]
def k0_off6 (k0_t2 : Fin k0_t2_loop.trips) (c0_i32_438 : BitVec 32) : Fin 2 → Nat :=
  let c0_i32_8 : BitVec 32 := 0#32
  let c1_i32_10 : BitVec 32 := 1#32
  let arg16 : BitVec 32 := Scf.iv c0_i32_8 c1_i32_10 k0_t2
  let c2048_i32 : BitVec 32 := 2048#32
  let v29 : BitVec 32 := Scalar.muli arg16 c2048_i32
  let v30 : BitVec 32 := v29
  let v1461 : BitVec 32 := Scalar.addi v30 c0_i32_438
  let v1480 : Index := Scalar.indexCast v1461
  let c0_448 : Index := 0#32
  ![v1480.toNat, 0]
def k0_cond2 (i : grid0.Coords) : BitVec 1 :=
  let arg0 : BitVec 32 := BitVec.ofNat 32 (i 0).val
  let c11_i32 : BitVec 32 := 11#32
  let v26 : BitVec 1 := Scalar.cmpi .eq arg0 c11_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x14336 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x14336 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S14336x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S12x14336 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x768x14336 : Shape := ⟨3, ![2, 768, 14336]⟩
abbrev S14336 : Shape := ⟨1, ![14336]⟩
abbrev S1536x14336 : Shape := ⟨2, ![1536, 14336]⟩
abbrev S_ : Shape := ⟨0, ![]⟩
abbrev S1536 : Shape := ⟨1, ![1536]⟩
abbrev S1536x1 : Shape := ⟨2, ![1536, 1]⟩
abbrev S1x14336 : Shape := ⟨2, ![1, 14336]⟩
abbrev S1536x112x128 : Shape := ⟨3, ![1536, 112, 128]⟩
abbrev S1536x112 : Shape := ⟨2, ![1536, 112]⟩
abbrev S253 : Shape := ⟨1, ![253]⟩
abbrev S1536x112x1 : Shape := ⟨3, ![1536, 112, 1]⟩
abbrev S1x1x253 : Shape := ⟨3, ![1, 1, 253]⟩
abbrev S1536x112x253 : Shape := ⟨3, ![1536, 112, 253]⟩
abbrev S14336x1536 : Shape := ⟨2, ![14336, 1536]⟩
abbrev S14336x12x128 : Shape := ⟨3, ![14336, 12, 128]⟩
abbrev S14336x12 : Shape := ⟨2, ![14336, 12]⟩
abbrev S14336x12x1 : Shape := ⟨3, ![14336, 12, 1]⟩
abbrev S14336x12x253 : Shape := ⟨3, ![14336, 12, 253]⟩

abbrev nBuf : Space → Nat
  | .hbm => 124
  | .vmem => 4
  | .smem => 0
  | _ => 0

abbrev bufTy : (tb : Table) → Fin (tcTables nBuf tb) → BufTy
  | .hbm, ⟨0, _⟩ => ⟨S2x768x14336, .bf16⟩
  | .hbm, ⟨1, _⟩ => ⟨S2x768x14336, .bf16⟩
  | .hbm, ⟨2, _⟩ => ⟨S14336, .f32⟩
  | .hbm, ⟨3, _⟩ => ⟨S2x768x14336, .f32⟩
  | .hbm, ⟨4, _⟩ => ⟨S2x768x14336, .f32⟩
  | .hbm, ⟨5, _⟩ => ⟨S2x768x14336, .f32⟩
  | .hbm, ⟨6, _⟩ => ⟨S2x768x14336, .bf16⟩
  | .hbm, ⟨7, _⟩ => ⟨S1536x14336, .bf16⟩
  | .hbm, ⟨8, _⟩ => ⟨S1536x14336, .f32⟩
  | .hbm, ⟨9, _⟩ => ⟨S1536x14336, .f32⟩
  | .hbm, ⟨10, _⟩ => ⟨S_, .f32⟩
  | .hbm, ⟨11, _⟩ => ⟨S1536, .f32⟩
  | .hbm, ⟨12, _⟩ => ⟨S1536x1, .f32⟩
  | .hbm, ⟨13, _⟩ => ⟨S_, .f32⟩
  | .hbm, ⟨14, _⟩ => ⟨S1536x1, .f32⟩
  | .hbm, ⟨15, _⟩ => ⟨S1536x1, .f32⟩
  | .hbm, ⟨16, _⟩ => ⟨S_, .f32⟩
  | .hbm, ⟨17, _⟩ => ⟨S1536x1, .f32⟩
  | .hbm, ⟨18, _⟩ => ⟨S1536x1, .f32⟩
  | .hbm, ⟨19, _⟩ => ⟨S1536x1, .f32⟩
  | .hbm, ⟨20, _⟩ => ⟨S1536x14336, .f32⟩
  | .hbm, ⟨21, _⟩ => ⟨S1536x14336, .f32⟩
  | .hbm, ⟨22, _⟩ => ⟨S1x14336, .f32⟩
  | .hbm, ⟨23, _⟩ => ⟨S1536x14336, .f32⟩
  | .hbm, ⟨24, _⟩ => ⟨S1536x14336, .f32⟩
  | .hbm, ⟨25, _⟩ => ⟨S1536x112x128, .f32⟩
  | .hbm, ⟨26, _⟩ => ⟨S1536x112x128, .f32⟩
  | .hbm, ⟨27, _⟩ => ⟨S_, .f32⟩
  | .hbm, ⟨28, _⟩ => ⟨S1536x112, .f32⟩
  | .hbm, ⟨29, _⟩ => ⟨S_, .f32⟩
  | .hbm, ⟨30, _⟩ => ⟨S1536x112, .f32⟩
  | .hbm, ⟨31, _⟩ => ⟨S1536x112, .f32⟩
  | .hbm, ⟨32, _⟩ => ⟨S253, .f32⟩
  | .hbm, ⟨33, _⟩ => ⟨S_, .f32⟩
  | .hbm, ⟨34, _⟩ => ⟨S253, .f32⟩
  | .hbm, ⟨35, _⟩ => ⟨S253, .f32⟩
  | .hbm, ⟨36, _⟩ => ⟨S_, .f32⟩
  | .hbm, ⟨37, _⟩ => ⟨S253, .f32⟩
  | .hbm, ⟨38, _⟩ => ⟨S253, .f32⟩
  | .hbm, ⟨39, _⟩ => ⟨S1536x112x1, .f32⟩
  | .hbm, ⟨40, _⟩ => ⟨S1x1x253, .f32⟩
  | .hbm, ⟨41, _⟩ => ⟨S1536x112x253, .f32⟩
  | .hbm, ⟨42, _⟩ => ⟨S1536x112x253, .f32⟩
  | .hbm, ⟨43, _⟩ => ⟨S1536x112x253, .i1⟩
  | .hbm, ⟨44, _⟩ => ⟨S_, .f32⟩
  | .hbm, ⟨45, _⟩ => ⟨S_, .f32⟩
  | .hbm, ⟨46, _⟩ => ⟨S1536x112x253, .f32⟩
  | .hbm, ⟨47, _⟩ => ⟨S1536x112x253, .f32⟩
  | .hbm, ⟨48, _⟩ => ⟨S1536x112x253, .f32⟩
  | .hbm, ⟨49, _⟩ => ⟨S_, .f32⟩
  | .hbm, ⟨50, _⟩ => ⟨S1536x112, .f32⟩
  | .hbm, ⟨51, _⟩ => ⟨S_, .f32⟩
  | .hbm, ⟨52, _⟩ => ⟨S1536x112, .f32⟩
  | .hbm, ⟨53, _⟩ => ⟨S1536x112, .i1⟩
  | .hbm, ⟨54, _⟩ => ⟨S_, .f32⟩
  | .hbm, ⟨55, _⟩ => ⟨S_, .f32⟩
  | .hbm, ⟨56, _⟩ => ⟨S1536x112, .f32⟩
  | .hbm, ⟨57, _⟩ => ⟨S1536x112, .f32⟩
  | .hbm, ⟨58, _⟩ => ⟨S_, .f32⟩
  | .hbm, ⟨59, _⟩ => ⟨S1536x112, .f32⟩
  | .hbm, ⟨60, _⟩ => ⟨S1536x112, .f32⟩
  | .hbm, ⟨61, _⟩ => ⟨S1536x112x1, .f32⟩
  | .hbm, ⟨62, _⟩ => ⟨S1536x112x128, .f32⟩
  | .hbm, ⟨63, _⟩ => ⟨S1536x112x128, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1536x112x128, .f32⟩
  | .hbm, ⟨68, _⟩ => ⟨S1536x112x128, .f32⟩
  | .hbm, ⟨69, _⟩ => ⟨S_, .f32⟩
  | .hbm, ⟨70, _⟩ => ⟨S1536x112x128, .f32⟩
  | .hbm, ⟨71, _⟩ => ⟨S1536x112x128, .f32⟩
  | .hbm, ⟨72, _⟩ => ⟨S1536x14336, .f32⟩
  | .hbm, ⟨73, _⟩ => ⟨S14336x1536, .f32⟩
  | .hbm, ⟨74, _⟩ => ⟨S14336x12x128, .f32⟩
  | .hbm, ⟨75, _⟩ => ⟨S14336x12x128, .f32⟩
  | .hbm, ⟨76, _⟩ => ⟨S_, .f32⟩
  | .hbm, ⟨77, _⟩ => ⟨S14336x12, .f32⟩
  | .hbm, ⟨78, _⟩ => ⟨S_, .f32⟩
  | .hbm, ⟨79, _⟩ => ⟨S14336x12, .f32⟩
  | .hbm, ⟨80, _⟩ => ⟨S14336x12, .f32⟩
  | .hbm, ⟨81, _⟩ => ⟨S253, .f32⟩
  | .hbm, ⟨82, _⟩ => ⟨S_, .f32⟩
  | .hbm, ⟨83, _⟩ => ⟨S253, .f32⟩
  | .hbm, ⟨84, _⟩ => ⟨S253, .f32⟩
  | .hbm, ⟨85, _⟩ => ⟨S_, .f32⟩
  | .hbm, ⟨86, _⟩ => ⟨S253, .f32⟩
  | .hbm, ⟨87, _⟩ => ⟨S253, .f32⟩
  | .hbm, ⟨88, _⟩ => ⟨S14336x12x1, .f32⟩
  | .hbm, ⟨89, _⟩ => ⟨S1x1x253, .f32⟩
  | .hbm, ⟨90, _⟩ => ⟨S14336x12x253, .f32⟩
  | .hbm, ⟨91, _⟩ => ⟨S14336x12x253, .f32⟩
  | .hbm, ⟨92, _⟩ => ⟨S14336x12x253, .i1⟩
  | .hbm, ⟨93, _⟩ => ⟨S_, .f32⟩
  | .hbm, ⟨94, _⟩ => ⟨S_, .f32⟩
  | .hbm, ⟨95, _⟩ => ⟨S14336x12x253, .f32⟩
  | .hbm, ⟨96, _⟩ => ⟨S14336x12x253, .f32⟩
  | .hbm, ⟨97, _⟩ => ⟨S14336x12x253, .f32⟩
  | .hbm, ⟨98, _⟩ => ⟨S_, .f32⟩
  | .hbm, ⟨99, _⟩ => ⟨S14336x12, .f32⟩
  | .hbm, ⟨100, _⟩ => ⟨S_, .f32⟩
  | .hbm, ⟨101, _⟩ => ⟨S14336x12, .f32⟩
  | .hbm, ⟨102, _⟩ => ⟨S14336x12, .i1⟩
  | .hbm, ⟨103, _⟩ => ⟨S_, .f32⟩
  | .hbm, ⟨104, _⟩ => ⟨S_, .f32⟩
  | .hbm, ⟨105, _⟩ => ⟨S14336x12, .f32⟩
  | .hbm, ⟨106, _⟩ => ⟨S14336x12, .f32⟩
  | .hbm, ⟨107, _⟩ => ⟨S_, .f32⟩
  | .hbm, ⟨108, _⟩ => ⟨S14336x12, .f32⟩
  | .hbm, ⟨109, _⟩ => ⟨S14336x12, .f32⟩
  | .hbm, ⟨110, _⟩ => ⟨S14336x12x1, .f32⟩
  | .hbm, ⟨111, _⟩ => ⟨S14336x12x128, .f32⟩
  | .hbm, ⟨112, _⟩ => ⟨S14336x12x128, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S14336x12x128, .f32⟩
  | .hbm, ⟨117, _⟩ => ⟨S14336x12x128, .f32⟩
  | .hbm, ⟨118, _⟩ => ⟨S_, .f32⟩
  | .hbm, ⟨119, _⟩ => ⟨S14336x12x128, .f32⟩
  | .hbm, ⟨120, _⟩ => ⟨S14336x12x128, .f32⟩
  | .hbm, ⟨121, _⟩ => ⟨S14336x1536, .f32⟩
  | .hbm, ⟨122, _⟩ => ⟨S1536x14336, .fp8e4m3⟩
  | .hbm, ⟨123, _⟩ => ⟨S14336x1536, .fp8e4m3⟩
  | .local _ .vmem, ⟨0, _⟩ => ⟨S1536x14336, .f32⟩
  | .local _ .vmem, ⟨1, _⟩ => ⟨S14336x1536, .f32⟩
  | .local _ .vmem, ⟨2, _⟩ => ⟨S1536x14336, .fp8e4m3⟩
  | .local _ .vmem, ⟨3, _⟩ => ⟨S14336x1536, .fp8e4m3⟩
  | _, _ => ⟨S2x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_call1_v0 : Ref sig .tc := ⟨.hbm, 55, rfl⟩
abbrev main_call1_v1 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_17 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v62 : Ref sig .tc := ⟨.hbm, 97, rfl⟩
abbrev main_cst_18 : Ref sig .tc := ⟨.hbm, 98, rfl⟩
abbrev main_v63 : Ref sig .tc := ⟨.hbm, 99, rfl⟩
abbrev main_cst_19 : Ref sig .tc := ⟨.hbm, 100, rfl⟩
abbrev main_v64 : Ref sig .tc := ⟨.hbm, 101, rfl⟩
abbrev main_v65 : Ref sig .tc := ⟨.hbm, 102, rfl⟩
abbrev main_cst_20 : Ref sig .tc := ⟨.hbm, 103, rfl⟩
abbrev main_call4_v0 : Ref sig .tc := ⟨.hbm, 104, rfl⟩
abbrev main_call4_v1 : Ref sig .tc := ⟨.hbm, 105, rfl⟩
abbrev main_v66 : Ref sig .tc := ⟨.hbm, 106, rfl⟩
abbrev main_cst_21 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_22 : Ref sig .tc := ⟨.hbm, 113, rfl⟩
abbrev main_cst_23 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v72 : Ref sig .tc := ⟨.hbm, 120, rfl⟩
abbrev main_v73 : Ref sig .tc := ⟨.hbm, 121, rfl⟩
abbrev main_v74_0 : Ref sig .tc := ⟨.hbm, 122, rfl⟩
abbrev main_v74_1 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Pure.lean ====
/- The kernel's values: what one group of columns computes from what it reads, and the offsets as functions of the
   group. -/
module

public import proofs.«01_k».proof.Proof.Gen.KernelIdeal.Frame

@[expose] public section

set_option maxRecDepth 16384

noncomputable section

namespace Cert.KernelIdeal.Hand

open Idealize.ShloMosaic Idealize.SL.Sem
open Facts₀ Facts

variable {F : FTy → Type} [FloatOps F]

/-! ## The quantiser's arithmetic -/

/-- One step of the exponent search: the bit is set where the value it makes is at most `q`. -/
def fieldStep {s : Shape} (q : FVec F s .f32) (b : BitVec 32) (w : IVec s 32) : IVec s 32 :=
  select (cmpf .ole (bitcastToFloat .f32 (ori w (broadcast s b))) q) (ori w (broadcast s b)) w

/-- The exponent field of `q` in place: the largest power of two at most `q`, as bits. -/
def field {s : Shape} (q : FVec F s .f32) : IVec s 32 :=
  fieldStep q 8388608#32 (fieldStep q 16777216#32 (fieldStep q 33554432#32 (fieldStep q 67108864#32
    (fieldStep q 134217728#32 (fieldStep q 268435456#32 (fieldStep q 536870912#32 (fieldStep q 1073741824#32 (broadcast s 0#32))))))))

/-- The bits of the scale: the exponent one up. -/
def scaleBits {s : Shape} (q : FVec F s .f32) : IVec s 32 := addi (field q) (broadcast s 8388608#32)

/-- The scale at `q`: one below the least normal, else a power of two. -/
def scaleOf {s : Shape} (q : FVec F s .f32) : FVec F s .f32 :=
  select (cmpf .olt q (broadcast s (Scalar.ofBits .f32 0x00800000#32))) (broadcast s (Scalar.ofBits .f32 0x3F800000#32)) (bitcastToFloat .f32 (scaleBits q))

/-- Its inverse. -/
def invOf {s : Shape} (q : FVec F s .f32) : FVec F s .f32 :=
  select (cmpf .olt q (broadcast s (Scalar.ofBits .f32 0x00800000#32))) (broadcast s (Scalar.ofBits .f32 0x3F800000#32))
    (bitcastToFloat .f32 (subi (broadcast s 2130706432#32) (scaleBits q)))

/-- Clipping to the fp8 range and the cast. -/
def clip8 (v : FVec F S128x128 .f32) : FVec F S128x128 .fp8e4m3 :=
  truncf .fp8e4m3 (minimumf (broadcast S128x128 (Scalar.ofBits .f32 0x43E00000#32)) (maximumf (broadcast S128x128 (Scalar.ofBits .f32 0xC3E00000#32)) v)) bitsLt_fp8e4m3_f32

/-- A group's normalised block: rows times the rows' factor times gamma. -/
def normBlock (h : Vec F S128x128 .bf16) (r : Vec F S128x128 .f32) (g : Vec F S1x128 .f32) : FVec F S128x128 .f32 :=
  mulf (mulf (extf .f32 (shapeCast S128x128 h shapeCasts_S128x128_S128x128) bitsLt_bf16_f32) r)
    (broadcastTo S128x128 (shapeCast S1x128 g shapeCasts_S1x128_S1x128) broadcasts_S1x128_S128x128)

/-- The rows' largest absolute values. -/
def rowMax (y : FVec F S128x128 .f32) : FVec F S128x1 .f32 :=
  shapeCast S128x1 (multiReduction .maximumf [1] S128 (absf y) 0xFF800000#32 reduces_S128x128_S128 (.inl rfl) rfl) shapeCasts_S128_S128x1

/-- The columns' largest absolute values over 448. -/
def colQ (y : FVec F S128x128 .f32) : FVec F S1x128 .f32 :=
  mulf (shapeCast S1x128 (multiReduction .maximumf [0] S128 (absf y) 0xFF800000#32 reduces_S128x128_S128_2 (.inl rfl) rfl) shapeCasts_S128_S1x128)
    (broadcast S1x128 (Scalar.ofBits .f32 0x3B124925#32))

/-- The rows' largest absolute values over 448. -/
def rowQ (a : Vec F S128x128 .f32) : FVec F S128x128 .f32 := mulf a (broadcast S128x128 (Scalar.ofBits .f32 0x3B124925#32))

/-- The trip's row scales, one line per group. -/
def rowScales (a : Vec F S128x128 .f32) : FVec F S16x128 .f32 :=
  extractStridedSlice S16x128 ![0, 0] (transpose S128x128 [1, 0] (scaleOf (rowQ a)) transposes_S128x128_p1_0_S128x128) slices_S128x128_o0_0_S16x128

/-- The trip's row inverses spread over their groups. -/
def rowInv (a : Vec F S128x128 .f32) (e : Vec F S128x2048 .bf16) : FVec F S128x2048 .f32 :=
  matmul dot_S128x128_S128x2048_S128x2048_1_0_0_1_n_n none (truncf .bf16 (invOf (rowQ a)) bitsLt_bf16_f32) e (constant S128x2048 .f32 0x00000000#32)

/-- A group's row codes. -/
def rowCodes (y inv : Vec F S128x128 .f32) : FVec F S128x128 .fp8e4m3 := clip8 (mulf y inv)

/-- A group's column codes. -/
def colCodes (y : Vec F S128x128 .f32) (ci : FVec F S1x128 .f32) : FVec F S128x128 .fp8e4m3 :=
  transpose S128x128 [1, 0] (clip8 (mulf y (broadcastTo S128x128 ci broadcasts_S1x128_S128x128))) transposes_S128x128_p1_0_S128x128

/-- The rows' factor from the gram matrix: its diagonal, the mean, the reciprocal root. -/
def rstdOf (acc : FVec F S128x128 .f32) : FVec F S128x128 .f32 :=
  broadcastTo S128x128 (shapeCast S128x1
    (rsqrt (addf (divf (shapeCast S128x1 (multiReduction .add [1] S128
        (select (cmpi .eq (iota .tc S128x128 32 [0] iota_S128x128_d0_w32) (iota .tc S128x128 32 [1] iota_S128x128_d1_w32)) acc
          (broadcast S128x128 (Scalar.ofBits .f32 0x00000000#32)))
        0x00000000#32 reduces_S128x128_S128 (.inl rfl) rfl) shapeCasts_S128_S128x1)
      (broadcast S128x1 (Scalar.ofBits .f32 0x46600000#32))) (broadcast S128x1 (Scalar.ofBits .f32 0x358637BD#32))))
    shapeCasts_S128x1_S128x1) broadcasts_S128x1_S128x128

/-- The sum of the two inputs' blocks. -/
def addBlock (x r : Vec F S128x2048 .bf16) : FVec F S128x2048 .bf16 :=
  addf (shapeCast S128x2048 x shapeCasts_S128x2048_S128x2048) (shapeCast S128x2048 r shapeCasts_S128x2048_S128x2048)

/-- One trip's addition to the gram matrix. -/
def gramStep (acc : FVec F S128x128 .f32) (h : FVec F S128x2048 .bf16) : FVec F S128x128 .f32 :=
  addf acc (matmul dot_S128x2048_S128x2048_S128x128_1_1_0_0_n_n none h h (constant S128x128 .f32 0x00000000#32))

/-- The matrix spreading a group's inverse over its 128 columns. -/
def expand : FVec F S128x2048 .bf16 :=
  have v29 : IVec S128x2048 32 := iota .tc S128x2048 32 [0] iota_S128x2048_d0_w32
  have v30 : IVec S128x2048 32 := iota .tc S128x2048 32 [1] iota_S128x2048_d1_w32
  have v32 : IVec S128x2048 32 := divsi v30 (broadcast S128x2048 128#32)
  have v39 : IVec S128x2048 32 := subi (extui 32 (cmpi .sgt v30 (broadcast S128x2048 0#32)) natLt_1_32) (extui 32 (cmpi .slt v30 (broadcast S128x2048 0#32)) natLt_1_32)
  have v46 : IVec S128x2048 1 := cmpi .ne v39 (broadcast S128x2048 (Scalar.subi (Scalar.extui (Scalar.cmpi .sgt 128#32 0#32)) (Scalar.extui (Scalar.cmpi .slt 128#32 0#32))))
  have v50 : IVec S128x2048 1 := cmpi .ne (remsi v30 (broadcast S128x2048 128#32)) (broadcast S128x2048 0#32)
  have v54 : IVec S128x2048 32 := select (andi v46 v50) (subi v32 (broadcast S128x2048 1#32)) v32
  truncf .bf16 (select (cmpi .eq v29 v54) (broadcast S128x2048 (Scalar.ofBits (F := F) .f32 0x3F800000#32)) (broadcast S128x2048 (Scalar.ofBits .f32 0x00000000#32))) bitsLt_bf16_f32

/-! ## Fixed offsets as functions of the group -/

theorem inb_y (g : Fin 16) : ∀ a, (![0, 128 * g.val] : Fin 2 → ℕ) a + S128x128.size a ≤ S128x2048.size a := by
  intro a; have := g.isLt; fin_cases a <;> simp [S128x128, S128x2048, Shape.size] <;> omega

theorem inb_amax (g : Fin 16) : ∀ a, (![0, g.val] : Fin 2 → ℕ) a + S128x1.size a ≤ S128x128.size a := by
  intro a; have := g.isLt; fin_cases a <;> simp [S128x128, S128x1, Shape.size] <;> omega

theorem inb_csd (q : Fin 112) : ∀ a, (![q.val, 0, 0] : Fin 3 → ℕ) a + S1x12x128.size a ≤ S112x16x128.size a := by
  intro a; have := q.isLt; fin_cases a <;> simp [S1x12x128, S112x16x128, Shape.size] <;> omega

theorem inb_cs (q : Fin 112) : ∀ a, (![0, 128 * q.val] : Fin 2 → ℕ) a + S12x128.size a ≤ S12x14336.size a := by
  intro a; have := q.isLt; fin_cases a <;> simp [S12x128, S12x14336, Shape.size] <;> omega

/-- The group with number `n`. -/
def grp (n : ℕ) : Fin 16 := ⟨n % 16, Nat.mod_lt _ (by decide)⟩

/-- The block of columns with number `n`. -/
def blk (n : ℕ) : Fin 112 := ⟨n % 112, Nat.mod_lt _ (by decide)⟩

end Cert.KernelIdeal.Hand

end

end
-- ==== Proof.Rules.lean ====
/- Loads and stores of unit rectangles of a buffer held by what is read through it, sequences of steps, and the
   bookkeeping of a buffer filled piece by piece towards a target. -/
module

public import proofs.«01_k».proof.Proof.Gen.KernelIdeal.Frame
public import Idealize.ShloMosaic.Lib.VecWindow

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {Γ : Defs nD τ sig (Elt F) Λ₀} (𝒱 : Variants) (c : Dev nD) (E : Set ℕ)

/-- The weakest precondition at core `c`. -/
abbrev WP {α : Type} (p : Prog (TpuEff nD τ sig (Elt F) Λ₀ .tc) α) (Q : α → sProp 𝕄) : sProp 𝕄 :=
  wp frame (wpE Γ 𝒱 (c : Thread nD τ) none) E p Q

variable {α : Type} {sp : CoreSpace} {s : Shape} {e : EltTy}

theorem owns_load {m : Memref sig .tc sp s e} {off size : Fin s.rank → ℕ} {inb : ∀ a, off a + size a ≤ s.size a}
    {hl : m.view.LoadsAt (Rect.unit off size inb).toLoadRect} {X : s.Idx → Elt F e}
    {k : (((Rect.unit off size inb).toLoadRect).shape.Idx → Elt F e) → Prog (TpuEff nD τ sig (Elt F) Λ₀ .tc) α} {Q : α → sProp 𝕄} :
    (owns (c : Thread nD τ) m fullShare X : sProp 𝕄)
      ⊢ iprop((owns (c : Thread nD τ) m fullShare X -∗ WP (Γ := Γ) 𝒱 c E (k (VecWindow.window X off size inb)) Q)
        -∗ WP (Γ := Γ) 𝒱 c E (Prog.op (.load m (Rect.unit off size inb).toLoadRect hl) k) Q) := by
  unfold owns
  iintro ⟨%f, %hf, H⟩ HK
  iapply (wp_load 𝒱 (c : Thread nD τ) none E (m := m) (S := m.view.set) (f := f) (View.setOn_subset_set _ _)) $$ H
  iintro H
  rw [View.readAt_unit m.view f inb rfl inb, hf]
  iapply HK
  iexists f
  isplitr; · ipureintro; exact hf
  iexact H

theorem owns_store {m : Memref sig .tc sp s e} {off size : Fin s.rank → ℕ} {inb : ∀ a, off a + size a ≤ s.size a}
    {w : (Rect.unit off size inb).shape.Idx → Elt F e} {X : s.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {Q : α → sProp 𝕄} :
    (owns (c : Thread nD τ) m fullShare X : sProp 𝕄)
      ⊢ iprop((owns (c : Thread nD τ) m fullShare (VecWindow.put X off size w) -∗ WP (Γ := Γ) 𝒱 c E (k ⟨⟩) Q)
        -∗ WP (Γ := Γ) 𝒱 c E (Prog.op (.store m (Rect.unit off size inb) w Finset.univ hx hm) k) Q) := by
  unfold owns
  iintro ⟨%f, %hf, H⟩ HK
  iapply (wp_store_writes₀ 𝒱 (c : Thread nD τ) none E (S := m.view.set) (m := m) (f := f) (View.set_slice_subset _ _)) $$ H
  iintro H
  iapply HK
  iexists (m.view.writes (Elt F) f [⟨Rect.unit off size inb, w⟩])
  isplitr
  · ipureintro
    rw [View.read_writes_cons_put m.view f inb w [] rfl, View.writes_nil, hf]
  iexact H

/-! ## Filling towards a target -/

/-- Whether an index lies in the rectangle. -/
def InRect (off size : Fin s.rank → ℕ) (y : s.Idx) : Prop := ∀ a, off a ≤ (y a).val ∧ (y a).val < off a + size a

/-- `X` is the target `T` wherever `p` holds. -/
def Agrees {β : Type} (p : s.Idx → Prop) (X T : s.Idx → β) : Prop := ∀ y, p y → X y = T y

theorem Agrees.put {β : Type} {p p' : s.Idx → Prop} {X T : s.Idx → β} {off size : Fin s.rank → ℕ}
    {w : ((a : Fin s.rank) → Fin (size a)) → β} (hX : Agrees p X T)
    (inb : ∀ a, off a + size a ≤ s.size a)
    (hw : ∀ y : (a : Fin s.rank) → Fin (size a), w y = T ((Rect.unit off size inb).emb y))
    (hp : ∀ y, p' y → ¬ InRect off size y → p y) :
    Agrees p' (VecWindow.put X off size w) T := by
  intro y hy
  unfold VecWindow.put
  by_cases h : ∀ a, off a ≤ (y a).val ∧ (y a).val < off a + size a
  · rw [dif_pos h, hw]
    refine congrArg T (funext fun a => Fin.ext ?_)
    show off a + 1 * ((y a).val - off a) = (y a).val
    have := (h a).1
    omega
  · rw [dif_neg h]
    exact hX y (hp y hy h)

/-- What is read of a filled part is the target's window. -/
theorem Agrees.window {β : Type} {p : s.Idx → Prop} {X T : s.Idx → β} (hX : Agrees p X T) {off size : Fin s.rank → ℕ}
    (inb : ∀ a, off a + size a ≤ s.size a) (hp : ∀ y, InRect off size y → p y) :
    VecWindow.window X off size inb = VecWindow.window T off size inb := by
  funext y
  refine hX _ (hp _ fun a => ?_)
  have e : ((Rect.unit off size inb).emb y a).val = off a + 1 * (y a).val := rfl
  have h1 := (y a).isLt
  have h2 : (Rect.unit off size inb).shape.size a = size a := rfl
  omega

theorem Agrees.all {β : Type} {p : s.Idx → Prop} {X T : s.Idx → β} (hX : Agrees p X T) (hp : ∀ y, p y) : X = T :=
  funext fun y => hX y (hp y)

/-! ## Sequences -/

/-- `f s`, …, `f (s + n - 1)` run in order, their results kept by position, then `K`. -/
def collectK {P β : Type*} (f : ℕ → (β → P) → P) : ℕ → ℕ → (ℕ → β) → ((ℕ → β) → P) → P
  | 0, _, cs, K => K cs
  | n + 1, s, cs, K => f s fun x => collectK f n (s + 1) (fun j => bif Nat.beq j s then x else cs j) K

/-- `f s`, …, `f (s + n - 1)` run in order, then `K`. -/
def runK {P : Type*} (f : ℕ → P → P) : ℕ → ℕ → P → P
  | 0, _, K => K
  | n + 1, s, K => f s (runK f n (s + 1) K)

theorem wp_collectK {β : Type} (f : ℕ → (β → Prog (TpuEff nD τ sig (Elt F) Λ₀ .tc) α) → Prog (TpuEff nD τ sig (Elt F) Λ₀ .tc) α)
    (I : ℕ → (ℕ → β) → sProp 𝕄) (N : ℕ) (Q : α → sProp 𝕄)
    (hs : ∀ s, s < N → ∀ cs K, I s cs ⊢ iprop((∀ x, I (s + 1) (fun j => bif Nat.beq j s then x else cs j) -∗ WP (Γ := Γ) 𝒱 c E (K x) Q)
      -∗ WP (Γ := Γ) 𝒱 c E (f s K) Q)) (K : (ℕ → β) → Prog (TpuEff nD τ sig (Elt F) Λ₀ .tc) α) (n s : ℕ) (cs : ℕ → β) (h : s + n = N) :
    I s cs ⊢ iprop((∀ cs, I N cs -∗ WP (Γ := Γ) 𝒱 c E (K cs) Q) -∗ WP (Γ := Γ) 𝒱 c E (collectK f n s cs K) Q) := by
  induction n generalizing s cs with
  | zero =>
    obtain rfl : s = N := by omega
    unfold collectK
    iintro H HK
    iapply HK; iexact H
  | succ n ih =>
    unfold collectK
    iintro H HK
    iapply (hs s (by omega) cs _) $$ H
    iintro %x H
    iapply (ih (s + 1) _ (by omega)) $$ H
    iexact HK

theorem wp_runK (f : ℕ → Prog (TpuEff nD τ sig (Elt F) Λ₀ .tc) α → Prog (TpuEff nD τ sig (Elt F) Λ₀ .tc) α)
    (I : ℕ → sProp 𝕄) (N : ℕ) (Q : α → sProp 𝕄)
    (hs : ∀ s, s < N → ∀ K, I s ⊢ iprop((I (s + 1) -∗ WP (Γ := Γ) 𝒱 c E K Q) -∗ WP (Γ := Γ) 𝒱 c E (f s K) Q))
    (K : Prog (TpuEff nD τ sig (Elt F) Λ₀ .tc) α) (n s : ℕ) (h : s + n = N) :
    I s ⊢ iprop((I N -∗ WP (Γ := Γ) 𝒱 c E K Q) -∗ WP (Γ := Γ) 𝒱 c E (runK f n s K) Q) := by
  induction n generalizing s with
  | zero =>
    obtain rfl : s = N := by omega
    unfold runK
    iintro H HK
    iapply HK; iexact H
  | succ n ih =>
    unfold runK
    iintro H HK
    iapply (hs s (by omega) _) $$ H
    iintro H
    iapply (ih (s + 1) (by omega)) $$ H
    iexact HK

end Cert.KernelIdeal.Hand

end

end
-- ==== Proof.Struct.lean ====
/- The kernel's body restated with its repetition visible: one group of 128 columns of a trip of the second loop
   (`normGroup`, `quantGroup`) and one copied block of column scales (`copyBlock`) as functions of the group, and the
   body as their sequences (`body`); it is the printed body. -/
module

public import proofs.«01_k».proof.Proof.Pure
public import proofs.«01_k».proof.Proof.Rules

@[expose] public section

set_option maxRecDepth 16384

noncomputable section

namespace Cert.KernelIdeal.Hand

open Idealize.ShloMosaic Idealize.SL.Sem
open Facts₀ Facts

variable {F : FTy → Type} [FloatOps F]

/-! ## The pieces -/

/-- One group's first half in trip `k`: the normalised block kept, the rows' maxima kept, the columns' scale kept in line
    `i`; returns the columns' inverse. -/
def normGroup (i : grid0.Coords) (arg3 : Memref sig .tc .vmem S1x14336 .f32) (arg4 : Memref sig .tc .vmem S128x14336 .bf16)
    (arg9 : Memref sig .tc .vmem S128x2048 .f32) (arg10 : Memref sig .tc .vmem S128x128 .f32) (arg11 : Memref sig .tc .vmem S128x128 .f32)
    (arg15 : Memref sig .tc .vmem S112x16x128 .f32) (k : Fin k0_t2_loop.trips) (g : Fin 16) (K : FVec F S1x128 .f32 → Prog (TpuEff nD τ sig (Elt F) Λ₀ .tc) PUnit) :
    Prog (TpuEff nD τ sig (Elt F) Λ₀ .tc) PUnit :=
  .op (.load arg4 (Rect.unit (s := S128x14336) (k0_off2 k (BitVec.ofNat 32 (128 * g.val))) S128x128.size (k0_off2_inb k g)).toLoadRect (View.loadsAt_vmem h_S128x128)) fun h =>
  .op (.load arg11 (Rect.unit (s := S128x128) ![0, 0] S128x128.size inb_S128x128_S128x128_0_0).toLoadRect (View.loadsAt_vmem h_S128x128)) fun r =>
  .op (.load arg3 (Rect.unit (s := S1x14336) (k0_off3 k (BitVec.ofNat 32 (128 * g.val))) S1x128.size (k0_off3_inb k g)).toLoadRect (View.loadsAt_vmem h_S1x128)) fun gm =>
  .op (.load arg9 (Rect.unit (s := S128x2048) ![0, 128 * g.val] S128x128.size (inb_y g)).toLoadRect (View.loadsAt_vmem h_S128x128)) fun _ =>
  .op (.store arg9 (Rect.unit (s := S128x2048) ![0, 128 * g.val] S128x128.size (inb_y g)) (shapeCast S128x128 (normBlock h r gm) shapeCasts_S128x128_S128x128) Finset.univ (View.stores_vmem_bits_univ h_S128x128 rfl) (.inl rfl)) fun _ =>
  .op (.load arg10 (Rect.unit (s := S128x128) ![0, g.val] S128x1.size (inb_amax g)).toLoadRect (View.loadsAt_vmem h_S128x1)) fun _ =>
  .op (.store arg10 (Rect.unit (s := S128x128) ![0, g.val] S128x1.size (inb_amax g)) (shapeCast S128x1 (rowMax (normBlock h r gm)) shapeCasts_S128x1_S128x1) Finset.univ (View.stores_vmem_bits_univ h_S128x1 rfl) (.inl rfl)) fun _ =>
  .op (.load arg15 (Rect.unit (s := S112x16x128) (k0_off4 i k (BitVec.ofNat 32 g.val)) S1x1x128.size (k0_off4_inb i k g)).toLoadRect (View.loadsAt_vmem h_S1x1x128)) fun _ =>
  .op (.store arg15 (Rect.unit (s := S112x16x128) (k0_off4 i k (BitVec.ofNat 32 g.val)) S1x1x128.size (k0_off4_inb i k g)) (shapeCast S1x1x128 (scaleOf (colQ (normBlock h r gm))) shapeCasts_S1x128_S1x1x128) Finset.univ (View.stores_vmem_bits_univ h_S1x1x128 rfl) (.inl rfl)) fun _ =>
  K (invOf (colQ (normBlock h r gm)))

/-- The middle of trip `k`: the row scales kept, the row inverses spread. -/
def mid (arg10 : Memref sig .tc .vmem S128x128 .f32) (arg12 : Memref sig .tc .vmem S128x2048 .bf16)
    (arg13 : Memref sig .tc .vmem S128x2048 .f32) (arg14 : Memref sig .tc .vmem S112x128 .f32) (k : Fin k0_t2_loop.trips) (K : Prog (TpuEff nD τ sig (Elt F) Λ₀ .tc) PUnit) :
    Prog (TpuEff nD τ sig (Elt F) Λ₀ .tc) PUnit :=
  .op (.load arg10 (Rect.unit (s := S128x128) ![0, 0] S128x128.size inb_S128x128_S128x128_0_0).toLoadRect (View.loadsAt_vmem h_S128x128)) fun a =>
  .op (.load arg14 (Rect.unit (s := S112x128) (k0_off5 k) S16x128.size (k0_off5_inb k)).toLoadRect (View.loadsAt_vmem h_S16x128)) fun _ =>
  .op (.store arg14 (Rect.unit (s := S112x128) (k0_off5 k) S16x128.size (k0_off5_inb k)) (shapeCast S16x128 (rowScales a) shapeCasts_S16x128_S16x128) Finset.univ (View.stores_vmem_bits_univ h_S16x128 rfl) (.inl rfl)) fun _ =>
  .op (.load arg12 (Rect.unit (s := S128x2048) ![0, 0] S128x2048.size inb_S128x2048_S128x2048_0_0).toLoadRect (View.loadsAt_vmem h_S128x2048)) fun e =>
  .op (.load arg13 (Rect.unit (s := S128x2048) ![0, 0] S128x2048.size inb_S128x2048_S128x2048_0_0).toLoadRect (View.loadsAt_vmem h_S128x2048)) fun _ =>
  .op (.store arg13 (Rect.unit (s := S128x2048) ![0, 0] S128x2048.size inb_S128x2048_S128x2048_0_0) (shapeCast S128x2048 (rowInv a e) shapeCasts_S128x2048_S128x2048) Finset.univ (View.stores_vmem_bits_univ h_S128x2048 rfl) (.inl rfl)) fun _ =>
  K

/-- One group's second half in trip `k`: its row codes and, by the inverse `ci`, its column codes. -/
def quantGroup (arg5 : Memref sig .tc .vmem S128x14336 .fp8e4m3) (harg5 : arg5.IsWhole) (arg7 : Memref sig .tc .vmem S14336x128 .fp8e4m3) (harg7 : arg7.IsWhole)
    (arg9 : Memref sig .tc .vmem S128x2048 .f32) (arg13 : Memref sig .tc .vmem S128x2048 .f32) (k : Fin k0_t2_loop.trips) (g : Fin 16) (ci : FVec F S1x128 .f32) (K : Prog (TpuEff nD τ sig (Elt F) Λ₀ .tc) PUnit) :
    Prog (TpuEff nD τ sig (Elt F) Λ₀ .tc) PUnit :=
  .op (.load arg9 (Rect.unit (s := S128x2048) ![0, 128 * g.val] S128x128.size (inb_y g)).toLoadRect (View.loadsAt_vmem h_S128x128)) fun y =>
  .op (.load arg13 (Rect.unit (s := S128x2048) ![0, 128 * g.val] S128x128.size (inb_y g)).toLoadRect (View.loadsAt_vmem h_S128x128)) fun inv =>
  .op (.load arg5 (Rect.unit (s := S128x14336) (k0_off2 k (BitVec.ofNat 32 (128 * g.val))) S128x128.size (k0_off2_inb k g)).toLoadRect (View.loadsAt_vmem h_S128x128)) fun _ =>
  .op (.store arg5 (Rect.unit (s := S128x14336) (k0_off2 k (BitVec.ofNat 32 (128 * g.val))) S128x128.size (k0_off2_inb k g)) (rowCodes y inv) Finset.univ (View.stores_vmem h_S128x128 (harg5.storeExact_slice rfl _ (k0_off2_packedfp8e4m3 k g)) (fun _ => rfl)) (.inl rfl)) fun _ =>
  .op (.load arg7 (Rect.unit (s := S14336x128) (k0_off6 k (BitVec.ofNat 32 (128 * g.val))) S128x128.size (k0_off6_inb k g)).toLoadRect (View.loadsAt_vmem h_S128x128)) fun _ =>
  .op (.store arg7 (Rect.unit (s := S14336x128) (k0_off6 k (BitVec.ofNat 32 (128 * g.val))) S128x128.size (k0_off6_inb k g)) (colCodes y ci) Finset.univ (View.stores_vmem h_S128x128 (harg7.storeExact_slice rfl _ (k0_off6_packedfp8e4m3 k g)) (fun _ => rfl)) (.inl rfl)) fun _ =>
  K

/-- One block of column scales moved to the output at the last point. -/
def copyBlock (arg8 : Memref sig .tc .vmem S12x14336 .f32) (arg15 : Memref sig .tc .vmem S112x16x128 .f32) (q : Fin 112) (K : Prog (TpuEff nD τ sig (Elt F) Λ₀ .tc) PUnit) :
    Prog (TpuEff nD τ sig (Elt F) Λ₀ .tc) PUnit :=
  .op (.load arg15 (Rect.unit (s := S112x16x128) ![q.val, 0, 0] S1x12x128.size (inb_csd q)).toLoadRect (View.loadsAt_vmem h_S1x12x128)) fun v =>
  .op (.load arg8 (Rect.unit (s := S12x14336) ![0, 128 * q.val] S12x128.size (inb_cs q)).toLoadRect (View.loadsAt_vmem h_S12x128)) fun _ =>
  .op (.store arg8 (Rect.unit (s := S12x14336) ![0, 128 * q.val] S12x128.size (inb_cs q)) (shapeCast S12x128 v shapeCasts_S1x12x128_S12x128) Finset.univ (View.stores_vmem_bits_univ h_S12x128 rfl) (.inl rfl)) fun _ =>
  K

/-- Trip `k` of the second loop. -/
def trip (i : grid0.Coords) (arg3 : Memref sig .tc .vmem S1x14336 .f32) (arg4 : Memref sig .tc .vmem S128x14336 .bf16)
    (arg5 : Memref sig .tc .vmem S128x14336 .fp8e4m3) (harg5 : arg5.IsWhole) (arg7 : Memref sig .tc .vmem S14336x128 .fp8e4m3) (harg7 : arg7.IsWhole)
    (arg9 : Memref sig .tc .vmem S128x2048 .f32) (arg10 : Memref sig .tc .vmem S128x128 .f32) (arg11 : Memref sig .tc .vmem S128x128 .f32)
    (arg12 : Memref sig .tc .vmem S128x2048 .bf16) (arg13 : Memref sig .tc .vmem S128x2048 .f32) (arg14 : Memref sig .tc .vmem S112x128 .f32)
    (arg15 : Memref sig .tc .vmem S112x16x128 .f32) (k : Fin k0_t2_loop.trips) : Prog (TpuEff nD τ sig (Elt F) Λ₀ .tc) PUnit :=
  collectK (fun g => normGroup i arg3 arg4 arg9 arg10 arg11 arg15 k (grp g)) 16 0 (fun _ => broadcast S1x128 (Scalar.ofBits .f32 0x00000000#32)) fun cs =>
  mid arg10 arg12 arg13 arg14 k <|
  runK (fun g => quantGroup arg5 harg5 arg7 harg7 arg9 arg13 k (grp g) (cs g)) 16 0 <|
  .ret ⟨⟩

/-- Trip `k` of the first loop. -/
def addTrip (arg1 : Memref sig .tc .vmem S128x14336 .bf16) (arg2 : Memref sig .tc .vmem S128x14336 .bf16)
    (arg4 : Memref sig .tc .vmem S128x14336 .bf16) (harg4 : arg4.IsWhole) (k : Fin k0_t1_loop.trips) (acc : FVec F S128x128 .f32) :
    Prog (TpuEff nD τ sig (Elt F) Λ₀ .tc) (FVec F S128x128 .f32) :=
  .op (.load arg1 (Rect.unit (s := S128x14336) (k0_off1 k) S128x2048.size (k0_off1_inb k)).toLoadRect (View.loadsAt_vmem h_S128x2048)) fun x =>
  .op (.load arg2 (Rect.unit (s := S128x14336) (k0_off1 k) S128x2048.size (k0_off1_inb k)).toLoadRect (View.loadsAt_vmem h_S128x2048)) fun r =>
  .op (.load arg4 (Rect.unit (s := S128x14336) (k0_off1 k) S128x2048.size (k0_off1_inb k)).toLoadRect (View.loadsAt_vmem h_S128x2048)) fun _ =>
  .op (.store arg4 (Rect.unit (s := S128x14336) (k0_off1 k) S128x2048.size (k0_off1_inb k)) (addBlock x r) Finset.univ (View.stores_vmem h_S128x2048 (harg4.storeExact_slice rfl _ (k0_off1_packedbf16 k)) (fun _ => rfl)) (.inl rfl)) fun _ =>
  .ret (gramStep acc (addBlock x r))

/-- What the first point sets up: the spreading matrix, and zeros. -/
def setup (arg10 : Memref sig .tc .vmem S128x128 .f32) (arg12 : Memref sig .tc .vmem S128x2048 .bf16) (harg12 : arg12.IsWhole)
    (arg15 : Memref sig .tc .vmem S112x16x128 .f32) (K : Prog (TpuEff nD τ sig (Elt F) Λ₀ .tc) PUnit) :
    Prog (TpuEff nD τ sig (Elt F) Λ₀ .tc) PUnit :=
  .op (.load arg12 (Rect.unit (s := S128x2048) ![0, 0] S128x2048.size inb_S128x2048_S128x2048_0_0).toLoadRect (View.loadsAt_vmem h_S128x2048)) fun _ =>
  .op (.store arg12 (Rect.unit (s := S128x2048) ![0, 0] S128x2048.size inb_S128x2048_S128x2048_0_0) (shapeCast S128x2048 expand shapeCasts_S128x2048_S128x2048) Finset.univ (View.stores_vmem h_S128x2048 (harg12.storeExact_slice rfl _ packedbf16_S128x2048_S128x2048_0_0) (fun _ => rfl)) (.inl rfl)) fun _ =>
  .op (.load arg10 (Rect.unit (s := S128x128) ![0, 0] S128x128.size inb_S128x128_S128x128_0_0).toLoadRect (View.loadsAt_vmem h_S128x128)) fun _ =>
  .op (.store arg10 (Rect.unit (s := S128x128) ![0, 0] S128x128.size inb_S128x128_S128x128_0_0) (shapeCast S128x128 (broadcast S128x128 (Scalar.ofBits .f32 0x00000000#32)) shapeCasts_S128x128_S128x128) Finset.univ (View.stores_vmem_bits_univ h_S128x128 rfl) (.inl rfl)) fun _ =>
  .op (.load arg15 (Rect.unit (s := S112x16x128) ![0, 0, 0] S112x16x128.size inb_S112x16x128_S112x16x128_0_0_0).toLoadRect (View.loadsAt_vmem h_S112x16x128)) fun _ =>
  .op (.store arg15 (Rect.unit (s := S112x16x128) ![0, 0, 0] S112x16x128.size inb_S112x16x128_S112x16x128_0_0_0) (shapeCast S112x16x128 (broadcast S112x16x128 (Scalar.ofBits .f32 0x00000000#32)) shapeCasts_S112x16x128_S112x16x128) Finset.univ (View.stores_vmem_bits_univ h_S112x16x128 rfl) (.inl rfl)) fun _ =>
  K

/-- The condition of the first `if`. -/
def cond1 (i : grid0.Coords) : BitVec 1 := Scalar.cmpi .ne (Scalar.extui (Scalar.cmpi .eq (BitVec.ofNat 32 (i 0).val) 0#32) : BitVec 32) 0#32

/-- The rows' factors kept. -/
def keepRstd (arg11 : Memref sig .tc .vmem S128x128 .f32) (acc : FVec F S128x128 .f32) (K : Prog (TpuEff nD τ sig (Elt F) Λ₀ .tc) PUnit) :
    Prog (TpuEff nD τ sig (Elt F) Λ₀ .tc) PUnit :=
  .op (.load arg11 (Rect.unit (s := S128x128) ![0, 0] S128x128.size inb_S128x128_S128x128_0_0).toLoadRect (View.loadsAt_vmem h_S128x128)) fun _ =>
  .op (.store arg11 (Rect.unit (s := S128x128) ![0, 0] S128x128.size inb_S128x128_S128x128_0_0) (shapeCast S128x128 (rstdOf acc) shapeCasts_S128x128_S128x128) Finset.univ (View.stores_vmem_bits_univ h_S128x128 rfl) (.inl rfl)) fun _ =>
  K

/-- The row scales moved to their output. -/
def outRows (arg6 : Memref sig .tc .vmem S112x128 .f32) (arg14 : Memref sig .tc .vmem S112x128 .f32) (K : Prog (TpuEff nD τ sig (Elt F) Λ₀ .tc) PUnit) :
    Prog (TpuEff nD τ sig (Elt F) Λ₀ .tc) PUnit :=
  .op (.load arg14 (Rect.unit (s := S112x128) ![0, 0] S112x128.size inb_S112x128_S112x128_0_0).toLoadRect (View.loadsAt_vmem h_S112x128)) fun v =>
  .op (.load arg6 (Rect.unit (s := S112x128) ![0, 0] S112x128.size inb_S112x128_S112x128_0_0).toLoadRect (View.loadsAt_vmem h_S112x128)) fun _ =>
  .op (.store arg6 (Rect.unit (s := S112x128) ![0, 0] S112x128.size inb_S112x128_S112x128_0_0) v Finset.univ (View.stores_vmem_bits_univ h_S112x128 rfl) (.inl rfl)) fun _ =>
  K

/-- The body after its set-up. -/
def rest (i : grid0.Coords) (arg1 : Memref sig .tc .vmem S128x14336 .bf16) (harg1 : arg1.IsWhole) (arg2 : Memref sig .tc .vmem S128x14336 .bf16) (harg2 : arg2.IsWhole) (arg3 : Memref sig .tc .vmem S1x14336 .f32) (harg3 : arg3.IsWhole) (arg4 : Memref sig .tc .vmem S128x14336 .bf16) (harg4 : arg4.IsWhole) (arg5 : Memref sig .tc .vmem S128x14336 .fp8e4m3) (harg5 : arg5.IsWhole) (arg6 : Memref sig .tc .vmem S112x128 .f32) (harg6 : arg6.IsWhole) (arg7 : Memref sig .tc .vmem S14336x128 .fp8e4m3) (harg7 : arg7.IsWhole) (arg8 : Memref sig .tc .vmem S12x14336 .f32) (harg8 : arg8.IsWhole) (arg9 : Memref sig .tc .vmem S128x2048 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S112x128 .f32) (harg14 : arg14.IsWhole) (arg15 : Memref sig .tc .vmem S112x16x128 .f32) (harg15 : arg15.IsWhole) :
    Prog (TpuEff nD τ sig (Elt F) Λ₀ .tc) PUnit :=
  Scf.Loop.for k0_t1_loop k0_t1_ok (broadcast S128x128 (Scalar.ofBits .f32 0x00000000#32)) (fun k acc => addTrip arg1 arg2 arg4 harg4 k acc) >>= fun acc =>
  keepRstd arg11 acc <|
  Scf.Loop.for k0_t2_loop k0_t2_ok ⟨⟩ (fun k _ => trip i arg3 arg4 arg5 harg5 arg7 harg7 arg9 arg10 arg11 arg12 arg13 arg14 arg15 k) >>= fun _ =>
  outRows arg6 arg14 <|
  if _h : k0_cond2 i = 1#1 then runK (fun q => copyBlock arg8 arg15 (blk q)) 112 0 (.ret ⟨⟩) else .ret ⟨⟩

/-- The kernel's body. -/
def body (i : grid0.Coords) (arg1 : Memref sig .tc .vmem S128x14336 .bf16) (harg1 : arg1.IsWhole) (arg2 : Memref sig .tc .vmem S128x14336 .bf16) (harg2 : arg2.IsWhole) (arg3 : Memref sig .tc .vmem S1x14336 .f32) (harg3 : arg3.IsWhole) (arg4 : Memref sig .tc .vmem S128x14336 .bf16) (harg4 : arg4.IsWhole) (arg5 : Memref sig .tc .vmem S128x14336 .fp8e4m3) (harg5 : arg5.IsWhole) (arg6 : Memref sig .tc .vmem S112x128 .f32) (harg6 : arg6.IsWhole) (arg7 : Memref sig .tc .vmem S14336x128 .fp8e4m3) (harg7 : arg7.IsWhole) (arg8 : Memref sig .tc .vmem S12x14336 .f32) (harg8 : arg8.IsWhole) (arg9 : Memref sig .tc .vmem S128x2048 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S112x128 .f32) (harg14 : arg14.IsWhole) (arg15 : Memref sig .tc .vmem S112x16x128 .f32) (harg15 : arg15.IsWhole) :
    Prog (TpuEff nD τ sig (Elt F) Λ₀ .tc) PUnit :=
  if _h : cond1 i = 1#1 then setup arg10 arg12 harg12 arg15 (rest i arg1 harg1 arg2 harg2 arg3 harg3 arg4 harg4 arg5 harg5 arg6 harg6 arg7 harg7 arg8 harg8 arg9 harg9 arg10 harg10 arg11 harg11 arg12 harg12 arg13 harg13 arg14 harg14 arg15 harg15)
  else rest i arg1 harg1 arg2 harg2 arg3 harg3 arg4 harg4 arg5 harg5 arg6 harg6 arg7 harg7 arg8 harg8 arg9 harg9 arg10 harg10 arg11 harg11 arg12 harg12 arg13 harg13 arg14 harg14 arg15 harg15

/-- The printed body is the structured one. -/
theorem body_eq (i : grid0.Coords) (arg1 : Memref sig .tc .vmem S128x14336 .bf16) (harg1 : arg1.IsWhole) (arg2 : Memref sig .tc .vmem S128x14336 .bf16) (harg2 : arg2.IsWhole) (arg3 : Memref sig .tc .vmem S1x14336 .f32) (harg3 : arg3.IsWhole) (arg4 : Memref sig .tc .vmem S128x14336 .bf16) (harg4 : arg4.IsWhole) (arg5 : Memref sig .tc .vmem S128x14336 .fp8e4m3) (harg5 : arg5.IsWhole) (arg6 : Memref sig .tc .vmem S112x128 .f32) (harg6 : arg6.IsWhole) (arg7 : Memref sig .tc .vmem S14336x128 .fp8e4m3) (harg7 : arg7.IsWhole) (arg8 : Memref sig .tc .vmem S12x14336 .f32) (harg8 : arg8.IsWhole) (arg9 : Memref sig .tc .vmem S128x2048 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S112x128 .f32) (harg14 : arg14.IsWhole) (arg15 : Memref sig .tc .vmem S112x16x128 .f32) (harg15 : arg15.IsWhole) :
    cc0_add_rmsnorm_fp8_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = body i arg1 harg1 arg2 harg2 arg3 harg3 arg4 harg4 arg5 harg5 arg6 harg6 arg7 harg7 arg8 harg8 arg9 harg9 arg10 harg10 arg11 harg11 arg12 harg12 arg13 harg13 arg14 harg14 arg15 harg15 := rfl

end Cert.KernelIdeal.Hand

end

end
-- ==== Proof.Offs.lean ====
/- The kernel's offsets in closed form, and the grid point. -/
module

public import proofs.«01_k».proof.Proof.Gen.KernelIdeal.Frame

@[expose] public section

set_option maxRecDepth 16384

noncomputable section

namespace Cert.KernelIdeal.Hand

open Idealize.ShloMosaic

theorem trips1 : k0_t1_loop.trips = 7 := by decide
theorem trips2 : k0_t2_loop.trips = 7 := by decide

theorem off1_eq (k : Fin k0_t1_loop.trips) : k0_off1 k = ![0, 2048 * k.val] := by
  revert k; decide

theorem off2_eq (k : Fin k0_t2_loop.trips) (g : Fin 16) : k0_off2 k (BitVec.ofNat 32 (128 * g.val)) = ![0, 128 * (16 * k.val + g.val)] := by
  revert k g; decide

theorem off3_eq (k : Fin k0_t2_loop.trips) (g : Fin 16) : k0_off3 k (BitVec.ofNat 32 (128 * g.val)) = ![0, 128 * (16 * k.val + g.val)] := by
  revert k g; decide

theorem off4_eq (i : grid0.Coords) (k : Fin k0_t2_loop.trips) (g : Fin 16) : k0_off4 i k (BitVec.ofNat 32 g.val) = ![16 * k.val + g.val, (i 0).val, 0] := by
  have h : ∀ (k : Fin k0_t2_loop.trips) (g : Fin 16) (j : Fin 12), (![(Scalar.indexCast (Scalar.addi (Scalar.muli (Scf.iv 0#32 1#32 k) 16#32) (BitVec.ofNat 32 g.val))).toNat,
      (Scalar.indexCast (BitVec.ofNat 32 j.val) : Index).toNat, 0] : Fin 3 → ℕ) = ![16 * k.val + g.val, j.val, 0] := by decide
  exact h k g (i 0)

theorem off5_eq (k : Fin k0_t2_loop.trips) : k0_off5 k = ![16 * k.val, 0] := by
  revert k; decide

theorem off6_eq (k : Fin k0_t2_loop.trips) (g : Fin 16) : k0_off6 k (BitVec.ofNat 32 (128 * g.val)) = ![128 * (16 * k.val + g.val), 0] := by
  revert k g; decide

end Cert.KernelIdeal.Hand

end

end
-- ==== Proof.Target.lean ====
/- What the body leaves, as functions of what it reads: tiles of 128 rows or columns, and each buffer's target. -/
module

public import proofs.«01_k».proof.Proof.Pure
public import proofs.«01_k».proof.Proof.Offs
public import proofs.«01_k».proof.Proof.Rules
public import Idealize.ShloMosaic.Lib.ValueLayout

@[expose] public section

set_option maxRecDepth 16384

noncomputable section

namespace Cert.KernelIdeal.Hand

open Idealize.ShloMosaic Idealize.SL.Sem Idealize.ShloMosaic.ValueIdx
open Facts₀ Facts

variable {F : FTy → Type} [FloatOps F]

/-! ## Tiles -/

theorem window_congr {s : Shape} {β : Type} (X : s.Idx → β) {off off' size : Fin s.rank → ℕ} (h : off = off')
    (inb : ∀ a, off a + size a ≤ s.size a) (inb' : ∀ a, off' a + size a ≤ s.size a) :
    VecWindow.window X off size inb = VecWindow.window X off' size inb' := by
  subst h; rfl

theorem put_congr {s : Shape} {β : Type} (X : s.Idx → β) {off off' size : Fin s.rank → ℕ} (h : off = off')
    (w : ((a : Fin s.rank) → Fin (size a)) → β) :
    VecWindow.put X off size w = VecWindow.put X off' size w := by
  subst h; rfl

theorem inb_cols (q : Fin 112) : ∀ a, (![0, 128 * q.val] : Fin 2 → ℕ) a + S128x128.size a ≤ S128x14336.size a := by
  intro a; have := q.isLt; fin_cases a <;> simp [S128x128, S128x14336, Shape.size] <;> omega

theorem inb_gam (q : Fin 112) : ∀ a, (![0, 128 * q.val] : Fin 2 → ℕ) a + S1x128.size a ≤ S1x14336.size a := by
  intro a; have := q.isLt; fin_cases a <;> simp [S1x128, S1x14336, Shape.size] <;> omega

theorem inb_rows (q : Fin 112) : ∀ a, (![128 * q.val, 0] : Fin 2 → ℕ) a + S128x128.size a ≤ S14336x128.size a := by
  intro a; have := q.isLt; fin_cases a <;> simp [S128x128, S14336x128, Shape.size] <;> omega

/-- Blocks of 128 columns side by side. -/
def colTile {n : ℕ} {β : Type} (B : ℕ → S128x128.Idx → β) : (⟨2, ![128, n]⟩ : Shape).Idx → β :=
  fun y => B ((y 1).val / 128) (ix2 ⟨(y 0).val, (y 0).isLt⟩ ⟨(y 1).val % 128, Nat.mod_lt _ (by decide)⟩)

/-- Blocks of 128 rows one below the other. -/
def rowTile {β : Type} (B : ℕ → S128x128.Idx → β) : S14336x128.Idx → β :=
  fun y => B ((y 0).val / 128) (ix2 ⟨(y 0).val % 128, Nat.mod_lt _ (by decide)⟩ ⟨(y 1).val, (y 1).isLt⟩)

theorem colTile_eq {n : ℕ} {β : Type} (B : ℕ → S128x128.Idx → β) (q : ℕ) (y : S128x128.Idx) (z : (⟨2, ![128, n]⟩ : Shape).Idx)
    (h0 : (z 0).val = (y 0).val) (h1 : (z 1).val = 128 * q + (y 1).val) : colTile B z = B q y := by
  have hy : (y 1).val < 128 := (y 1).isLt
  unfold colTile
  have e : (z 1).val / 128 = q := by omega
  rw [e]
  refine congrArg (B q) (funext fun a => ?_)
  fin_cases a
  · exact Fin.ext h0
  · exact Fin.ext (show (z 1).val % 128 = (y 1).val by omega)

theorem rowTile_eq {β : Type} (B : ℕ → S128x128.Idx → β) (q : ℕ) (y : S128x128.Idx) (z : S14336x128.Idx)
    (h0 : (z 0).val = 128 * q + (y 0).val) (h1 : (z 1).val = (y 1).val) : rowTile B z = B q y := by
  have hy : (y 0).val < 128 := (y 0).isLt
  unfold rowTile
  have e : (z 0).val / 128 = q := by omega
  rw [e]
  refine congrArg (B q) (funext fun a => ?_)
  fin_cases a
  · exact Fin.ext (show (z 0).val % 128 = (y 0).val by omega)
  · exact Fin.ext h1

/-! ## Targets, from the sums `H`, the rows' factors `R` and gamma `G` -/

variable (H : Vec F S128x14336 .bf16) (R : Vec F S128x128 .f32) (G : Vec F S1x14336 .f32)

/-- The normalised block of group `q` of 112. -/
def yBlk (q : ℕ) : FVec F S128x128 .f32 :=
  normBlock (VecWindow.window H ![0, 128 * (blk q).val] S128x128.size (inb_cols (blk q))) R
    (VecWindow.window G ![0, 128 * (blk q).val] S1x128.size (inb_gam (blk q)))

/-- The normalised blocks of trip `k`. -/
def yT (k : ℕ) : Vec F S128x2048 .f32 := colTile fun g => yBlk H R G (16 * k + g)

/-- The rows' largest values of trip `k`, one column per group; zero beyond the sixteen groups. -/
def aT (k : ℕ) : Vec F S128x128 .f32 := fun y =>
  if (y 1).val < 16 then rowMax (yBlk H R G (16 * k + (y 1).val)) (ix2 ⟨(y 0).val, (y 0).isLt⟩ 0) else Scalar.ofBits .f32 0x00000000#32

/-- The row inverses of trip `k`, spread. -/
def invT (k : ℕ) : Vec F S128x2048 .f32 := rowInv (aT H R G k) expand

/-- Group `q`'s row codes. -/
def c5B (q : ℕ) : Vec F S128x128 .fp8e4m3 :=
  rowCodes (yBlk H R G q) (VecWindow.window (invT H R G (q / 16)) ![0, 128 * (grp q).val] S128x128.size (inb_y (grp q)))

/-- Group `q`'s column codes. -/
def c7B (q : ℕ) : Vec F S128x128 .fp8e4m3 := colCodes (yBlk H R G q) (invOf (colQ (yBlk H R G q)))

/-- The row codes. -/
def c5T : Vec F S128x14336 .fp8e4m3 := colTile (c5B H R G)

/-- The row scales. -/
def rsT : Vec F S112x128 .f32 := fun y =>
  rowScales (aT H R G ((y 0).val / 16)) (ix2 ⟨(y 0).val % 16, Nat.mod_lt _ (by decide)⟩ ⟨(y 1).val, (y 1).isLt⟩)

/-- The column codes. -/
def c7T : Vec F S14336x128 .fp8e4m3 := rowTile (c7B H R G)

/-- Line `t` of the column scales' target is this point's. -/
def CsdAt (t : ℕ) (T : Vec F S112x16x128 .f32) : Prop :=
  ∀ y : S112x16x128.Idx, (y 1).val = t → T y = scaleOf (colQ (yBlk H R G (y 0).val)) (ix2 0 ⟨(y 2).val, (y 2).isLt⟩)

/-- The column scales' output from the lines kept. -/
def c8T (T : Vec F S112x16x128 .f32) : Vec F S12x14336 .f32 := fun y =>
  T (ix3 ⟨(y 1).val / 128, by have := (y 1).isLt; change (y 1).val < 14336 at this; omega⟩
    ⟨(y 0).val, by have := (y 0).isLt; change (y 0).val < 12 at this; omega⟩ ⟨(y 1).val % 128, Nat.mod_lt _ (by decide)⟩)

/-! ## What is read and stored against the targets -/

theorem k_lt (k : Fin k0_t2_loop.trips) : k.val < 7 := trips2 ▸ k.isLt

theorem blk_val (k : Fin k0_t2_loop.trips) (g : ℕ) (hg : g < 16) : (blk (16 * k.val + g)).val = 16 * k.val + g := by
  have := k_lt k
  exact Nat.mod_eq_of_lt (by omega)

theorem grp_val (g : ℕ) (hg : g < 16) : (grp g).val = g := Nat.mod_eq_of_lt hg

theorem norm_load (k : Fin k0_t2_loop.trips) (g : ℕ) (hg : g < 16) :
    normBlock (VecWindow.window H (k0_off2 k (BitVec.ofNat 32 (128 * (grp g).val))) S128x128.size (k0_off2_inb k (grp g)))
      (VecWindow.window R ![0, 0] S128x128.size inb_S128x128_S128x128_0_0)
      (VecWindow.window G (k0_off3 k (BitVec.ofNat 32 (128 * (grp g).val))) S1x128.size (k0_off3_inb k (grp g)))
      = yBlk H R G (16 * k.val + g) := by
  have e : (![0, 128 * (16 * k.val + (grp g).val)] : Fin 2 → ℕ) = ![0, 128 * (blk (16 * k.val + g)).val] := by rw [blk_val k g hg, grp_val g hg]
  unfold yBlk
  congr 1
  · exact window_congr H ((off2_eq k (grp g)).trans e) _ _
  · funext y
    refine congrArg R (funext fun a => Fin.ext ?_)
    fin_cases a
    · show 0 + 1 * (y 0).val = (y 0).val; omega
    · show 0 + 1 * (y 1).val = (y 1).val; omega
  · exact window_congr G ((off3_eq k (grp g)).trans e) _ _

theorem window_yT (k : ℕ) (g : ℕ) (hg : g < 16) :
    VecWindow.window (yT H R G k) ![0, 128 * (grp g).val] S128x128.size (inb_y (grp g)) = yBlk H R G (16 * k + g) := by
  funext y
  refine colTile_eq (n := 2048) (fun g => yBlk H R G (16 * k + g)) g y
    ((Rect.unit (s := S128x2048) ![0, 128 * (grp g).val] S128x128.size (inb_y (grp g))).emb y) ?_ ?_
  · show 0 + 1 * (y 0).val = (y 0).val; omega
  · show 128 * (grp g).val + 1 * (y 1).val = _; have := grp_val g hg; omega

theorem inRect2 {a b : ℕ} {off size : Fin 2 → ℕ} {y : (⟨2, ![a, b]⟩ : Shape).Idx} :
    InRect off size y ↔ (off 0 ≤ (y 0).val ∧ (y 0).val < off 0 + size 0) ∧ (off 1 ≤ (y 1).val ∧ (y 1).val < off 1 + size 1) :=
  Fin.forall_fin_two

theorem inRect3 {a b d : ℕ} {off size : Fin 3 → ℕ} {y : (⟨3, ![a, b, d]⟩ : Shape).Idx} :
    InRect off size y ↔ (off 0 ≤ (y 0).val ∧ (y 0).val < off 0 + size 0) ∧ (off 1 ≤ (y 1).val ∧ (y 1).val < off 1 + size 1)
      ∧ (off 2 ≤ (y 2).val ∧ (y 2).val < off 2 + size 2) := by
  unfold InRect
  rw [Fin.forall_fin_succ, Fin.forall_fin_two]; rfl

variable {H R G}

/-! ## A group's stores keep its buffers on target -/

theorem put_y (k : Fin k0_t2_loop.trips) (g : ℕ) (hg : g < 16) {X : Vec F S128x2048 .f32}
    (hX : Agrees (fun y => (y 1).val < 128 * g) X (yT H R G k.val)) :
    Agrees (fun y => (y 1).val < 128 * (g + 1))
      (VecWindow.put X ![0, 128 * (grp g).val] S128x128.size (shapeCast S128x128 (yBlk H R G (16 * k.val + g)) shapeCasts_S128x128_S128x128)) (yT H R G k.val) := by
  refine hX.put (inb_y (grp g)) (fun y => ?_) (fun y hy hn => ?_)
  · rw [shapeCast_self]
    exact (congrFun (window_yT H R G k.val g hg) y).symm
  · have h0 : (y 0).val < 128 := (y 0).isLt
    rw [inRect2, grp_val g hg] at hn
    have e0 : (![0, 128 * g] : Fin 2 → ℕ) 0 = 0 := rfl
    have e1 : (![0, 128 * g] : Fin 2 → ℕ) 1 = 128 * g := rfl
    have s0 : S128x128.size 0 = 128 := rfl
    have s1 : S128x128.size 1 = 128 := rfl
    rw [e0, e1, s0, s1] at hn
    show (y 1).val < 128 * g
    have hy' : (y 1).val < 128 * (g + 1) := hy
    omega

theorem put_a (k : Fin k0_t2_loop.trips) (g : ℕ) (hg : g < 16) {X : Vec F S128x128 .f32}
    (hX : Agrees (fun y => (y 1).val < g ∨ 16 ≤ (y 1).val) X (aT H R G k.val)) :
    Agrees (fun y => (y 1).val < g + 1 ∨ 16 ≤ (y 1).val)
      (VecWindow.put X ![0, (grp g).val] S128x1.size (shapeCast S128x1 (rowMax (yBlk H R G (16 * k.val + g))) shapeCasts_S128x1_S128x1)) (aT H R G k.val) := by
  refine hX.put (inb_amax (grp g)) (fun y => ?_) (fun y hy hn => ?_)
  · rw [shapeCast_self]
    have hy1 : (y 1).val < 1 := (y 1).isLt
    have v0 : (((Rect.unit (s := S128x128) ![0, (grp g).val] S128x1.size (inb_amax (grp g))).emb y) 0).val = (y 0).val := by
      show 0 + 1 * (y 0).val = (y 0).val; omega
    have v1 : (((Rect.unit (s := S128x128) ![0, (grp g).val] S128x1.size (inb_amax (grp g))).emb y) 1).val = g := by
      show (grp g).val + 1 * (y 1).val = g; rw [grp_val g hg]; omega
    unfold aT
    rw [if_pos (by rw [v1]; exact hg)]
    simp only [v1]
    refine congrArg (rowMax (yBlk H R G (16 * k.val + g))) (funext fun a => Fin.ext ?_)
    fin_cases a
    · exact v0.symm
    · show (y 1).val = 0; omega
  · have h0 : (y 0).val < 128 := (y 0).isLt
    rw [inRect2, grp_val g hg] at hn
    have e0 : (![0, g] : Fin 2 → ℕ) 0 = 0 := rfl
    have e1 : (![0, g] : Fin 2 → ℕ) 1 = g := rfl
    have s0 : S128x1.size 0 = 128 := rfl
    have s1 : S128x1.size 1 = 1 := rfl
    rw [e0, e1, s0, s1] at hn
    show (y 1).val < g ∨ 16 ≤ (y 1).val
    have hy' : (y 1).val < g + 1 ∨ 16 ≤ (y 1).val := hy
    omega

theorem put_csd (i : grid0.Coords) (k : Fin k0_t2_loop.trips) (g : ℕ) (hg : g < 16) {X T : Vec F S112x16x128 .f32} (hT : CsdAt H R G (i 0).val T)
    (hX : Agrees (fun y => (y 1).val < (i 0).val ∨ (y 1).val = (i 0).val ∧ (y 0).val < 16 * k.val + g) X T) :
    Agrees (fun y => (y 1).val < (i 0).val ∨ (y 1).val = (i 0).val ∧ (y 0).val < 16 * k.val + (g + 1))
      (VecWindow.put X (k0_off4 i k (BitVec.ofNat 32 (grp g).val)) S1x1x128.size
        (shapeCast S1x1x128 (scaleOf (colQ (yBlk H R G (16 * k.val + g)))) shapeCasts_S1x128_S1x1x128)) T := by
  have eo := (off4_eq i k (grp g)).trans (by rw [grp_val g hg] : _ = ![16 * k.val + g, (i 0).val, 0])
  have hi : (i 0).val < 12 := (i 0).isLt
  have hk := k_lt k
  rw [put_congr X eo]
  have inb : ∀ a, (![16 * k.val + g, (i 0).val, 0] : Fin 3 → ℕ) a + S1x1x128.size a ≤ S112x16x128.size a := by
    intro a; fin_cases a <;> simp [S1x1x128, S112x16x128, Shape.size] <;> omega
  refine hX.put inb (fun (y : S1x1x128.Idx) => ?_) (fun y hy hn => ?_)
  · have hy0 : (y 0).val < 1 := (y 0).isLt
    have hy1 : (y 1).val < 1 := (y 1).isLt
    have v0 : (((Rect.unit (s := S112x16x128) ![16 * k.val + g, (i 0).val, 0] S1x1x128.size inb).emb y) 0).val = 16 * k.val + g := by
      show 16 * k.val + g + 1 * (y 0).val = _; omega
    have v1 : (((Rect.unit (s := S112x16x128) ![16 * k.val + g, (i 0).val, 0] S1x1x128.size inb).emb y) 1).val = (i 0).val := by
      show (i 0).val + 1 * (y 1).val = _; omega
    have v2 : (((Rect.unit (s := S112x16x128) ![16 * k.val + g, (i 0).val, 0] S1x1x128.size inb).emb y) 2).val = (y 2).val := by
      show 0 + 1 * (y 2).val = _; omega
    rw [hT _ v1]
    have ey : y = ix3 0 0 ⟨(y 2).val, (y 2).isLt⟩ := by
      funext a; apply Fin.ext; fin_cases a
      · show (y 0).val = 0; omega
      · show (y 1).val = 0; omega
      · rfl
    simp only [v0, v2]
    refine (congrArg (shapeCast S1x1x128 (scaleOf (colQ (yBlk H R G (16 * k.val + g)))) shapeCasts_S1x128_S1x1x128) ey).trans ?_
    exact shapeCast_ab_1ab_apply (a := 1) (b := 128) _ shapeCasts_S1x128_S1x1x128 0 0 _
  · rw [inRect3] at hn
    have h2 : (y 2).val < 128 := (y 2).isLt
    have e0 : (![16 * k.val + g, (i 0).val, 0] : Fin 3 → ℕ) 0 = 16 * k.val + g := rfl
    have e1 : (![16 * k.val + g, (i 0).val, 0] : Fin 3 → ℕ) 1 = (i 0).val := rfl
    have e2 : (![16 * k.val + g, (i 0).val, 0] : Fin 3 → ℕ) 2 = 0 := rfl
    have s0 : S1x1x128.size 0 = 1 := rfl
    have s1 : S1x1x128.size 1 = 1 := rfl
    have s2 : S1x1x128.size 2 = 128 := rfl
    rw [e0, e1, e2, s0, s1, s2] at hn
    show (y 1).val < (i 0).val ∨ (y 1).val = (i 0).val ∧ (y 0).val < 16 * k.val + g
    have hy' : (y 1).val < (i 0).val ∨ (y 1).val = (i 0).val ∧ (y 0).val < 16 * k.val + (g + 1) := hy
    omega

theorem put_rs (k : Fin k0_t2_loop.trips) {X : Vec F S112x128 .f32} (hX : Agrees (fun y => (y 0).val < 16 * k.val) X (rsT H R G)) :
    Agrees (fun y => (y 0).val < 16 * (k.val + 1))
      (VecWindow.put X (k0_off5 k) S16x128.size (shapeCast S16x128 (rowScales (aT H R G k.val)) shapeCasts_S16x128_S16x128)) (rsT H R G) := by
  have hk := k_lt k
  rw [put_congr X (off5_eq k)]
  have inb : ∀ a, (![16 * k.val, 0] : Fin 2 → ℕ) a + S16x128.size a ≤ S112x128.size a := by
    intro a; fin_cases a <;> simp [S16x128, S112x128, Shape.size] <;> omega
  refine hX.put inb (fun y => ?_) (fun y hy hn => ?_)
  · rw [shapeCast_self]
    have hy0 : (y 0).val < 16 := (y 0).isLt
    have v0 : (((Rect.unit (s := S112x128) ![16 * k.val, 0] S16x128.size inb).emb y) 0).val = 16 * k.val + (y 0).val := by
      show 16 * k.val + 1 * (y 0).val = _; omega
    have v1 : (((Rect.unit (s := S112x128) ![16 * k.val, 0] S16x128.size inb).emb y) 1).val = (y 1).val := by
      show 0 + 1 * (y 1).val = _; omega
    unfold rsT
    have e : (16 * k.val + (y 0).val) / 16 = k.val := by omega
    simp only [v0, v1, e]
    refine congrArg (rowScales (aT H R G k.val)) (funext fun a => Fin.ext ?_)
    fin_cases a
    · show (y 0).val = (16 * k.val + (y 0).val) % 16; omega
    · rfl
  · rw [inRect2] at hn
    have h1 : (y 1).val < 128 := (y 1).isLt
    have e0 : (![16 * k.val, 0] : Fin 2 → ℕ) 0 = 16 * k.val := rfl
    have e1 : (![16 * k.val, 0] : Fin 2 → ℕ) 1 = 0 := rfl
    have s0 : S16x128.size 0 = 16 := rfl
    have s1 : S16x128.size 1 = 128 := rfl
    rw [e0, e1, s0, s1] at hn
    show (y 0).val < 16 * k.val
    have hy' : (y 0).val < 16 * (k.val + 1) := hy
    omega

theorem put_rc (k : Fin k0_t2_loop.trips) (g : ℕ) (hg : g < 16) {X : Vec F S128x14336 .fp8e4m3}
    (hX : Agrees (fun y => (y 1).val < 128 * (16 * k.val + g)) X (c5T H R G)) :
    Agrees (fun y => (y 1).val < 128 * (16 * k.val + (g + 1)))
      (VecWindow.put X (k0_off2 k (BitVec.ofNat 32 (128 * (grp g).val))) S128x128.size (c5B H R G (16 * k.val + g))) (c5T H R G) := by
  have eo := (off2_eq k (grp g)).trans (by rw [grp_val g hg] : _ = ![0, 128 * (16 * k.val + g)])
  have hk := k_lt k
  rw [put_congr X eo]
  have inb : ∀ a, (![0, 128 * (16 * k.val + g)] : Fin 2 → ℕ) a + S128x128.size a ≤ S128x14336.size a := by
    intro a; fin_cases a <;> simp [S128x128, S128x14336, Shape.size] <;> omega
  refine hX.put inb (fun y => ?_) (fun y hy hn => ?_)
  · refine (colTile_eq (n := 14336) (c5B H R G) (16 * k.val + g) y ((Rect.unit (s := S128x14336) ![0, 128 * (16 * k.val + g)] S128x128.size inb).emb y) ?_ ?_).symm
    · show 0 + 1 * (y 0).val = _; omega
    · show 128 * (16 * k.val + g) + 1 * (y 1).val = _; omega
  · rw [inRect2] at hn
    have h0 : (y 0).val < 128 := (y 0).isLt
    have e0 : (![0, 128 * (16 * k.val + g)] : Fin 2 → ℕ) 0 = 0 := rfl
    have e1 : (![0, 128 * (16 * k.val + g)] : Fin 2 → ℕ) 1 = 128 * (16 * k.val + g) := rfl
    have s0 : S128x128.size 0 = 128 := rfl
    have s1 : S128x128.size 1 = 128 := rfl
    rw [e0, e1, s0, s1] at hn
    show (y 1).val < 128 * (16 * k.val + g)
    have hy' : (y 1).val < 128 * (16 * k.val + (g + 1)) := hy
    omega

theorem put_cc (k : Fin k0_t2_loop.trips) (g : ℕ) (hg : g < 16) {X : Vec F S14336x128 .fp8e4m3}
    (hX : Agrees (fun y => (y 0).val < 128 * (16 * k.val + g)) X (c7T H R G)) :
    Agrees (fun y => (y 0).val < 128 * (16 * k.val + (g + 1)))
      (VecWindow.put X (k0_off6 k (BitVec.ofNat 32 (128 * (grp g).val))) S128x128.size (c7B H R G (16 * k.val + g))) (c7T H R G) := by
  have eo := (off6_eq k (grp g)).trans (by rw [grp_val g hg] : _ = ![128 * (16 * k.val + g), 0])
  have hk := k_lt k
  rw [put_congr X eo]
  have inb : ∀ a, (![128 * (16 * k.val + g), 0] : Fin 2 → ℕ) a + S128x128.size a ≤ S14336x128.size a := by
    intro a; fin_cases a <;> simp [S128x128, S14336x128, Shape.size] <;> omega
  refine hX.put inb (fun y => ?_) (fun y hy hn => ?_)
  · refine (rowTile_eq (c7B H R G) (16 * k.val + g) y ((Rect.unit (s := S14336x128) ![128 * (16 * k.val + g), 0] S128x128.size inb).emb y) ?_ ?_).symm
    · show 128 * (16 * k.val + g) + 1 * (y 0).val = _; omega
    · show 0 + 1 * (y 1).val = _; omega
  · rw [inRect2] at hn
    have h0 : (y 1).val < 128 := (y 1).isLt
    have e0 : (![128 * (16 * k.val + g), 0] : Fin 2 → ℕ) 0 = 128 * (16 * k.val + g) := rfl
    have e1 : (![128 * (16 * k.val + g), 0] : Fin 2 → ℕ) 1 = 0 := rfl
    have s0 : S128x128.size 0 = 128 := rfl
    have s1 : S128x128.size 1 = 128 := rfl
    rw [e0, e1, s0, s1] at hn
    show (y 0).val < 128 * (16 * k.val + g)
    have hy' : (y 0).val < 128 * (16 * k.val + (g + 1)) := hy
    omega

theorem put_cs (q : ℕ) (hq : q < 112) {X : Vec F S12x14336 .f32} (T : Vec F S112x16x128 .f32)
    (hX : Agrees (fun y => (y 1).val < 128 * q) X (c8T T)) :
    Agrees (fun y => (y 1).val < 128 * (q + 1))
      (VecWindow.put X ![0, 128 * (blk q).val] S12x128.size
        (shapeCast S12x128 (VecWindow.window T ![(blk q).val, 0, 0] S1x12x128.size (inb_csd (blk q))) shapeCasts_S1x12x128_S12x128)) (c8T T) := by
  have hb : (blk q).val = q := Nat.mod_eq_of_lt hq
  refine hX.put (inb_cs (blk q)) (fun y => ?_) (fun y hy hn => ?_)
  · have hy0 : (y 0).val < 12 := (y 0).isLt
    have hy1 : (y 1).val < 128 := (y 1).isLt
    have ey : y = ix2 ⟨(y 0).val, (y 0).isLt⟩ ⟨(y 1).val, (y 1).isLt⟩ := by
      funext a; apply Fin.ext; fin_cases a <;> rfl
    rw [ey]
    refine (shapeCast_1ab_ab_apply _ _ _ _).trans ?_
    unfold c8T VecWindow.window
    refine congrArg T (funext fun a => Fin.ext ?_)
    fin_cases a
    · show (blk q).val + 1 * 0 = (128 * (blk q).val + 1 * (y 1).val) / 128; omega
    · show 0 + 1 * (y 0).val = 0 + 1 * (y 0).val; rfl
    · show 0 + 1 * (y 1).val = (128 * (blk q).val + 1 * (y 1).val) % 128; omega
  · rw [inRect2, hb] at hn
    have h0 : (y 0).val < 12 := (y 0).isLt
    have e0 : (![0, 128 * q] : Fin 2 → ℕ) 0 = 0 := rfl
    have e1 : (![0, 128 * q] : Fin 2 → ℕ) 1 = 128 * q := rfl
    have s0 : S12x128.size 0 = 12 := rfl
    have s1 : S12x128.size 1 = 128 := rfl
    rw [e0, e1, s0, s1] at hn
    show (y 1).val < 128 * q
    have hy' : (y 1).val < 128 * (q + 1) := hy
    omega

theorem row_load (k : Fin k0_t2_loop.trips) (g : ℕ) (hg : g < 16) :
    rowCodes (VecWindow.window (yT H R G k.val) ![0, 128 * (grp g).val] S128x128.size (inb_y (grp g)))
      (VecWindow.window (invT H R G k.val) ![0, 128 * (grp g).val] S128x128.size (inb_y (grp g))) = c5B H R G (16 * k.val + g) := by
  unfold c5B
  have e : (16 * k.val + g) / 16 = k.val := by omega
  have eg : grp (16 * k.val + g) = grp g := Fin.ext (show (16 * k.val + g) % 16 = g % 16 by omega)
  rw [window_yT H R G k.val g hg, e]
  congr 1
  exact window_congr _ (by rw [eg]) _ _

theorem window_full {s : Shape} {β : Type} (X : s.Idx → β) {off : Fin s.rank → ℕ} (inb : ∀ a, off a + s.size a ≤ s.size a) :
    VecWindow.window X off s.size inb = X := by
  funext y
  refine congrArg X (funext fun a => Fin.ext ?_)
  show off a + 1 * (y a).val = (y a).val
  have := inb a; omega

theorem put_full {s : Shape} {β : Type} (X : s.Idx → β) {off : Fin s.rank → ℕ} (inb : ∀ a, off a + s.size a ≤ s.size a) (w : s.Idx → β) :
    VecWindow.put X off s.size w = w := by
  have := VecWindow.window_put_same X off s.size inb w
  rwa [window_full] at this

end Cert.KernelIdeal.Hand

end

end
-- ==== Proof.Trip.lean ====
/- One trip of the second loop: the groups' first halves, the middle, the groups' second halves, each keeping its
   buffers on the targets. -/
module

public import proofs.«01_k».proof.Proof.Struct
public import proofs.«01_k».proof.Proof.Target

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

variable {Γ : Defs nD τ sig (Elt F) Λ₀} (𝒱 : Variants) (c : Dev nD) (E : Set ℕ)
variable (H : Vec F S128x14336 .bf16) (R : Vec F S128x128 .f32) (G : Vec F S1x14336 .f32) (T : Vec F S112x16x128 .f32)

/-- A buffer on target where `p` holds. -/
def onT {sp : CoreSpace} {s : Shape} {e : EltTy} (m : Memref sig .tc sp s e) (p : s.Idx → Prop) (T : s.Idx → Elt F e) : sProp 𝕄 :=
  iprop(∃ X, ⌜Agrees p X T⌝ ∗ owns (c : Thread nD τ) m fullShare X)

variable (i : grid0.Coords) (arg3 : Memref sig .tc .vmem S1x14336 .f32) (arg4 : Memref sig .tc .vmem S128x14336 .bf16)
  (arg5 : Memref sig .tc .vmem S128x14336 .fp8e4m3) (harg5 : arg5.IsWhole) (arg7 : Memref sig .tc .vmem S14336x128 .fp8e4m3) (harg7 : arg7.IsWhole)
  (arg9 : Memref sig .tc .vmem S128x2048 .f32) (arg10 : Memref sig .tc .vmem S128x128 .f32) (arg11 : Memref sig .tc .vmem S128x128 .f32)
  (arg12 : Memref sig .tc .vmem S128x2048 .bf16) (arg13 : Memref sig .tc .vmem S128x2048 .f32) (arg14 : Memref sig .tc .vmem S112x128 .f32)
  (arg15 : Memref sig .tc .vmem S112x16x128 .f32) (k : Fin k0_t2_loop.trips)

/-- Before group `g`'s first half. -/
def J1 (g : ℕ) (cs : ℕ → FVec F S1x128 .f32) : sProp 𝕄 :=
  iprop(owns (c : Thread nD τ) arg3 fullShare G ∗ owns (c : Thread nD τ) arg4 fullShare H ∗ owns (c : Thread nD τ) arg11 fullShare R
    ∗ onT c arg9 (fun y => (y 1).val < 128 * g) (yT H R G k.val)
    ∗ onT c arg10 (fun y => (y 1).val < g ∨ 16 ≤ (y 1).val) (aT H R G k.val)
    ∗ onT c arg15 (fun y => (y 1).val < (i 0).val ∨ (y 1).val = (i 0).val ∧ (y 0).val < 16 * k.val + g) T
    ∗ ⌜∀ j < g, cs j = invOf (colQ (yBlk H R G (16 * k.val + j)))⌝)

theorem wp_normGroup (hT : CsdAt H R G (i 0).val T) (Q : PUnit → sProp 𝕄) (g : ℕ) (hg : g < 16) (cs : ℕ → FVec F S1x128 .f32)
    (K : FVec F S1x128 .f32 → Prog (TpuEff nD τ sig (Elt F) Λ₀ .tc) PUnit) :
    J1 c H R G T i arg3 arg4 arg9 arg10 arg11 arg15 k g cs ⊢
      iprop((∀ x, J1 c H R G T i arg3 arg4 arg9 arg10 arg11 arg15 k (g + 1) (fun j => bif Nat.beq j g then x else cs j) -∗ WP (Γ := Γ) 𝒱 c E (K x) Q)
        -∗ WP (Γ := Γ) 𝒱 c E (normGroup i arg3 arg4 arg9 arg10 arg11 arg15 k (grp g) K) Q) := by
  unfold J1 onT normGroup
  iintro ⟨H3, H4, H11, ⟨%X9, %h9, H9⟩, ⟨%X10, %h10, H10⟩, ⟨%X15, %h15, H15⟩, %hcs⟩ HK
  iapply (owns_load 𝒱 c E) $$ H4; iintro H4
  iapply (owns_load 𝒱 c E) $$ H11; iintro H11
  iapply (owns_load 𝒱 c E) $$ H3; iintro H3
  rw [norm_load H R G k g hg]
  iapply (owns_load 𝒱 c E) $$ H9; iintro H9
  iapply (owns_store 𝒱 c E) $$ H9; iintro H9
  iapply (owns_load 𝒱 c E) $$ H10; iintro H10
  iapply (owns_store 𝒱 c E) $$ H10; iintro H10
  iapply (owns_load 𝒱 c E) $$ H15; iintro H15
  iapply (owns_store 𝒱 c E) $$ H15; iintro H15
  iapply HK
  iframe H3 H4 H11
  isplitl [H9]
  · iexists _; iframe H9; ipureintro; exact put_y k g hg h9
  isplitl [H10]
  · iexists _; iframe H10; ipureintro; exact put_a k g hg h10
  isplitl [H15]
  · iexists _; iframe H15; ipureintro; exact put_csd i k g hg hT h15
  ipureintro
  intro j hj
  by_cases e : j = g
  · subst e
    have : Nat.beq j j = true := Nat.beq_refl j
    simp only [this, cond_true]
  · have : Nat.beq j g = false := by
      rw [Bool.eq_false_iff]; exact fun h => e (Nat.eq_of_beq_eq_true h)
    simp only [this, cond_false]
    exact hcs j (by omega)

/-- Before group `g`'s second half. -/
def J2 (g : ℕ) : sProp 𝕄 :=
  iprop(owns (c : Thread nD τ) arg9 fullShare (yT H R G k.val) ∗ owns (c : Thread nD τ) arg13 fullShare (invT H R G k.val)
    ∗ onT c arg5 (fun y => (y 1).val < 128 * (16 * k.val + g)) (c5T H R G)
    ∗ onT c arg7 (fun y => (y 0).val < 128 * (16 * k.val + g)) (c7T H R G))

theorem wp_quantGroup (Q : PUnit → sProp 𝕄) (g : ℕ) (hg : g < 16) (ci : FVec F S1x128 .f32) (hci : ci = invOf (colQ (yBlk H R G (16 * k.val + g))))
    (K : Prog (TpuEff nD τ sig (Elt F) Λ₀ .tc) PUnit) :
    J2 c H R G arg5 arg7 arg9 arg13 k g ⊢
      iprop((J2 c H R G arg5 arg7 arg9 arg13 k (g + 1) -∗ WP (Γ := Γ) 𝒱 c E K Q)
        -∗ WP (Γ := Γ) 𝒱 c E (quantGroup arg5 harg5 arg7 harg7 arg9 arg13 k (grp g) ci K) Q) := by
  subst hci
  unfold J2 onT quantGroup
  iintro ⟨H9, H13, ⟨%X5, %h5, H5⟩, ⟨%X7, %h7, H7⟩⟩ HK
  iapply (owns_load 𝒱 c E) $$ H9; iintro H9
  iapply (owns_load 𝒱 c E) $$ H13; iintro H13
  rw [row_load k g hg, window_yT H R G k.val g hg]
  iapply (owns_load 𝒱 c E) $$ H5; iintro H5
  iapply (owns_store 𝒱 c E) $$ H5; iintro H5
  iapply (owns_load 𝒱 c E) $$ H7; iintro H7
  iapply (owns_store 𝒱 c E) $$ H7; iintro H7
  iapply HK
  iframe H9 H13
  isplitl [H5]
  · iexists _; iframe H5; ipureintro; exact put_rc k g hg h5
  · iexists _; iframe H7; ipureintro; exact put_cc k g hg h7

/-- Before trip `k`. -/
def J (k : ℕ) : sProp 𝕄 :=
  iprop(owns (c : Thread nD τ) arg3 fullShare G ∗ owns (c : Thread nD τ) arg4 fullShare H ∗ owns (c : Thread nD τ) arg11 fullShare R
    ∗ owns (c : Thread nD τ) arg12 fullShare expand
    ∗ (∃ X, owns (c : Thread nD τ) arg9 fullShare X) ∗ (∃ X, owns (c : Thread nD τ) arg13 fullShare X)
    ∗ onT c arg10 (fun y => 16 ≤ (y 1).val) (fun _ => Scalar.ofBits .f32 0x00000000#32)
    ∗ onT c arg5 (fun y => (y 1).val < 128 * (16 * k)) (c5T H R G)
    ∗ onT c arg14 (fun y => (y 0).val < 16 * k) (rsT H R G)
    ∗ onT c arg7 (fun y => (y 0).val < 128 * (16 * k)) (c7T H R G)
    ∗ onT c arg15 (fun y => (y 1).val < (i 0).val ∨ (y 1).val = (i 0).val ∧ (y 0).val < 16 * k) T)

theorem wp_trip (hT : CsdAt H R G (i 0).val T) :
    J c H R G T i arg3 arg4 arg5 arg7 arg9 arg10 arg11 arg12 arg13 arg14 arg15 k.val ⊢
      WP (Γ := Γ) 𝒱 c E (trip i arg3 arg4 arg5 harg5 arg7 harg7 arg9 arg10 arg11 arg12 arg13 arg14 arg15 k)
        fun _ => J c H R G T i arg3 arg4 arg5 arg7 arg9 arg10 arg11 arg12 arg13 arg14 arg15 (k.val + 1) := by
  unfold J trip
  iintro ⟨H3, H4, H11, H12, ⟨%X9, H9⟩, ⟨%X13, H13⟩, H10, H5, H14, H7, H15⟩
  unfold onT
  icases H10 with ⟨%X10, %h10, H10⟩
  ihave HJ : J1 c H R G T i arg3 arg4 arg9 arg10 arg11 arg15 k 0 (fun _ => broadcast S1x128 (Scalar.ofBits .f32 0x00000000#32)) $$ [H3 H4 H11 H9 H10 H15]
  · unfold J1 onT
    iframe H3 H4 H11
    isplitl [H9]
    · iexists _; iframe H9; ipureintro; intro y hy; omega
    isplitl [H10]
    · iexists _; iframe H10; ipureintro
      intro y hy
      have hy' : 16 ≤ (y 1).val := by omega
      rw [h10 y hy']; unfold aT; rw [if_neg (by omega)]
    isplitl [H15]
    · iexact H15
    ipureintro; intro j hj; omega
  iapply (wp_collectK 𝒱 c E _ (J1 c H R G T i arg3 arg4 arg9 arg10 arg11 arg15 k) 16 _
    (fun g hg cs K => wp_normGroup 𝒱 c E H R G T i arg3 arg4 arg9 arg10 arg11 arg15 k hT _ g hg cs K) _ 16 0 _ rfl) $$ HJ
  iintro %cs HJ
  unfold J1 onT
  icases HJ with ⟨H3, H4, H11, ⟨%X9', %h9, H9⟩, ⟨%X10', %h10', H10⟩, H15, %hcs⟩
  have e9 := h9.all (fun y => (y 1).isLt)
  have e10 := h10'.all (fun y => lt_or_ge _ _)
  subst e9 e10
  unfold mid
  iapply (owns_load 𝒱 c E) $$ H10; iintro H10
  icases H14 with ⟨%X14, %h14, H14⟩
  iapply (owns_load 𝒱 c E) $$ H14; iintro H14
  iapply (owns_store 𝒱 c E) $$ H14; iintro H14
  iapply (owns_load 𝒱 c E) $$ H12; iintro H12
  iapply (owns_load 𝒱 c E) $$ H13; iintro H13
  iapply (owns_store 𝒱 c E) $$ H13; iintro H13
  rw [window_full (s := S128x128), window_full (s := S128x2048), shapeCast_self, shapeCast_self, put_full _ inb_S128x2048_S128x2048_0_0]
  ihave HJ : J2 c H R G arg5 arg7 arg9 arg13 k 0 $$ [H9 H13 H5 H7]
  · unfold J2 onT invT
    iframe H9 H13
    isplitl [H5]
    · iexact H5
    · iexact H7
  iapply (wp_runK 𝒱 c E _ (J2 c H R G arg5 arg7 arg9 arg13 k) 16 _
    (fun g hg K => wp_quantGroup 𝒱 c E H R G arg5 harg5 arg7 harg7 arg9 arg13 k _ g hg _ (hcs g hg) K) _ 16 0 rfl) $$ HJ
  iintro HJ
  unfold J2 onT
  icases HJ with ⟨H9, H13, H5, H7⟩
  iapply le_wp_ret (M := 𝕄) frame (wpE Γ 𝒱 (c : Thread nD τ) none) E
  iframe H3 H4 H11 H12
  isplitl [H9]; · iexists _; iexact H9
  isplitl [H13]; · iexists _; iexact H13
  isplitl [H10]
  · iexists _; iframe H10; ipureintro
    intro y hy; unfold aT; rw [if_neg (by have h : 16 ≤ (y 1).val := hy; omega)]
  isplitl [H5]; · iexact H5
  isplitl [H14]
  · iexists _; iframe H14; ipureintro; have e := put_rs k h14; rwa [shapeCast_self] at e
  isplitl [H7]; · iexact H7
  iexact H15

end Cert.KernelIdeal.Hand

end

end
-- ==== Proof.Body.lean ====
/- The body at one point: from its inputs' blocks and what the earlier points left in the scratch, its outputs' blocks. -/
module

public import proofs.«01_k».proof.Proof.Trip

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The sums and the rows' factors -/

theorem inb_chunk (n : ℕ) : ∀ a, (![0, 2048 * (n % 7)] : Fin 2 → ℕ) a + S128x2048.size a ≤ S128x14336.size a := by
  have := Nat.mod_lt n (by decide : 0 < 7)
  intro a; fin_cases a <;> simp [S128x2048, S128x14336, Shape.size] <;> omega

/-- The sum of the two inputs' blocks. -/
def sumT (x r : Vec F S128x14336 .bf16) : Vec F S128x14336 .bf16 := addf x r

/-- Chunk `n` of the sums. -/
def chunk (H : Vec F S128x14336 .bf16) (n : ℕ) : FVec F S128x2048 .bf16 := VecWindow.window H ![0, 2048 * (n % 7)] S128x2048.size (inb_chunk n)

/-- The gram matrix of the first `n` chunks. -/
def gramT (H : Vec F S128x14336 .bf16) : ℕ → FVec F S128x128 .f32
  | 0 => broadcast S128x128 (Scalar.ofBits .f32 0x00000000#32)
  | n + 1 => gramStep (gramT H n) (chunk H n)

/-- The rows' factors. -/
def rstdT (H : Vec F S128x14336 .bf16) : Vec F S128x128 .f32 := rstdOf (gramT H 7)

theorem add_load (x r : Vec F S128x14336 .bf16) (k : Fin k0_t1_loop.trips) :
    addBlock (VecWindow.window x (k0_off1 k) S128x2048.size (k0_off1_inb k)) (VecWindow.window r (k0_off1 k) S128x2048.size (k0_off1_inb k))
      = chunk (sumT x r) k.val := by
  have hk : k.val < 7 := trips1 ▸ k.isLt
  have e : k0_off1 k = ![0, 2048 * (k.val % 7)] := (off1_eq k).trans (by rw [Nat.mod_eq_of_lt hk])
  unfold addBlock
  rw [shapeCast_self, shapeCast_self, window_congr x e _ (inb_chunk k.val), window_congr r e _ (inb_chunk k.val)]
  rfl

theorem put_h (k : Fin k0_t1_loop.trips) {X H : Vec F S128x14336 .bf16} (hX : Agrees (fun y => (y 1).val < 2048 * k.val) X H) :
    Agrees (fun y => (y 1).val < 2048 * (k.val + 1)) (VecWindow.put X (k0_off1 k) S128x2048.size (chunk H k.val)) H := by
  have hk : k.val < 7 := trips1 ▸ k.isLt
  have e : k0_off1 k = ![0, 2048 * (k.val % 7)] := (off1_eq k).trans (by rw [Nat.mod_eq_of_lt hk])
  rw [put_congr X e]
  refine hX.put (inb_chunk k.val) (fun y => rfl) (fun y hy hn => ?_)
  rw [inRect2] at hn
  have h0 : (y 0).val < 128 := (y 0).isLt
  have e0 : (![0, 2048 * (k.val % 7)] : Fin 2 → ℕ) 0 = 0 := rfl
  have e1 : (![0, 2048 * (k.val % 7)] : Fin 2 → ℕ) 1 = 2048 * (k.val % 7) := rfl
  have s0 : S128x2048.size 0 = 128 := rfl
  have s1 : S128x2048.size 1 = 2048 := rfl
  rw [e0, e1, s0, s1] at hn
  show (y 1).val < 2048 * k.val
  have hy' : (y 1).val < 2048 * (k.val + 1) := hy
  omega

theorem cond1_iff (i : grid0.Coords) : cond1 i = 1#1 ↔ (i 0).val = 0 := by
  have h : ∀ j : Fin 12, (Scalar.cmpi .ne (Scalar.extui (Scalar.cmpi .eq (BitVec.ofNat 32 j.val) 0#32) : BitVec 32) 0#32 : BitVec 1) = 1#1 ↔ j.val = 0 := by decide
  exact h (i 0)

theorem cond2_iff (i : grid0.Coords) : k0_cond2 i = 1#1 ↔ (i 0).val = 11 := by
  have h : ∀ j : Fin 12, (Scalar.cmpi .ne (Scalar.extui (Scalar.cmpi .eq (BitVec.ofNat 32 j.val) 11#32) : BitVec 32) 0#32 : BitVec 1) = 1#1 ↔ j.val = 11 := by decide
  exact h (i 0)

variable {Γ : Defs nD τ sig (Elt F) Λ₀} (𝒱 : Variants) (c : Dev nD) (E : Set ℕ)
variable (x r : Vec F S128x14336 .bf16) (G : Vec F S1x14336 .f32) (T : Vec F S112x16x128 .f32) (X8 : Vec F S12x14336 .f32)
variable (i : grid0.Coords)
  (arg1 : Memref sig .tc .vmem S128x14336 .bf16) (harg1 : arg1.IsWhole) (arg2 : Memref sig .tc .vmem S128x14336 .bf16) (harg2 : arg2.IsWhole)
  (arg3 : Memref sig .tc .vmem S1x14336 .f32) (harg3 : arg3.IsWhole) (arg4 : Memref sig .tc .vmem S128x14336 .bf16) (harg4 : arg4.IsWhole)
  (arg5 : Memref sig .tc .vmem S128x14336 .fp8e4m3) (harg5 : arg5.IsWhole) (arg6 : Memref sig .tc .vmem S112x128 .f32) (harg6 : arg6.IsWhole)
  (arg7 : Memref sig .tc .vmem S14336x128 .fp8e4m3) (harg7 : arg7.IsWhole) (arg8 : Memref sig .tc .vmem S12x14336 .f32) (harg8 : arg8.IsWhole)
  (arg9 : Memref sig .tc .vmem S128x2048 .f32) (harg9 : arg9.IsWhole) (arg10 : Memref sig .tc .vmem S128x128 .f32) (harg10 : arg10.IsWhole)
  (arg11 : Memref sig .tc .vmem S128x128 .f32) (harg11 : arg11.IsWhole) (arg12 : Memref sig .tc .vmem S128x2048 .bf16) (harg12 : arg12.IsWhole)
  (arg13 : Memref sig .tc .vmem S128x2048 .f32) (harg13 : arg13.IsWhole) (arg14 : Memref sig .tc .vmem S112x128 .f32) (harg14 : arg14.IsWhole)
  (arg15 : Memref sig .tc .vmem S112x16x128 .f32) (harg15 : arg15.IsWhole)

/-- Before trip `k` of the first loop. -/
def A (k : ℕ) (acc : FVec F S128x128 .f32) : sProp 𝕄 :=
  iprop(owns (c : Thread nD τ) arg1 fullShare x ∗ owns (c : Thread nD τ) arg2 fullShare r
    ∗ onT c arg4 (fun y => (y 1).val < 2048 * k) (sumT x r) ∗ ⌜acc = gramT (sumT x r) k⌝)

theorem wp_addTrip (k : Fin k0_t1_loop.trips) (acc : FVec F S128x128 .f32) :
    A c x r arg1 arg2 arg4 k.val acc ⊢ WP (Γ := Γ) 𝒱 c E (addTrip arg1 arg2 arg4 harg4 k acc) (A c x r arg1 arg2 arg4 (k.val + 1)) := by
  unfold A onT addTrip
  iintro ⟨H1, H2, ⟨%X4, %h4, H4⟩, %hacc⟩
  subst hacc
  iapply (owns_load 𝒱 c E) $$ H1; iintro H1
  iapply (owns_load 𝒱 c E) $$ H2; iintro H2
  rw [add_load]
  iapply (owns_load 𝒱 c E) $$ H4; iintro H4
  iapply (owns_store 𝒱 c E) $$ H4; iintro H4
  iapply le_wp_ret (M := 𝕄) frame (wpE Γ 𝒱 (c : Thread nD τ) none) E
  iframe H1 H2
  isplitl [H4]
  · iexists _; iframe H4; ipureintro; exact put_h k h4
  ipureintro; rfl

/-- What the points before point `n` left in the scratch, and the rest of it. -/
def scr (n : ℕ) : sProp 𝕄 :=
  iprop((∃ X, owns (c : Thread nD τ) arg9 fullShare X) ∗ (∃ X, owns (c : Thread nD τ) arg11 fullShare X)
    ∗ (∃ X, owns (c : Thread nD τ) arg13 fullShare X) ∗ (∃ X, owns (c : Thread nD τ) arg14 fullShare X)
    ∗ ∃ X10 X12 X15, ⌜n ≠ 0 → Agrees (fun y => 16 ≤ (y 1).val) X10 (fun _ => Scalar.ofBits .f32 0x00000000#32) ∧ X12 = expand ∧ Agrees (fun y => (y 1).val < n) X15 T⌝
      ∗ owns (c : Thread nD τ) arg10 fullShare X10 ∗ owns (c : Thread nD τ) arg12 fullShare X12 ∗ owns (c : Thread nD τ) arg15 fullShare X15)

/-- The scratch once it is set up. -/
def scr1 (n : ℕ) : sProp 𝕄 :=
  iprop((∃ X, owns (c : Thread nD τ) arg9 fullShare X) ∗ (∃ X, owns (c : Thread nD τ) arg11 fullShare X)
    ∗ (∃ X, owns (c : Thread nD τ) arg13 fullShare X) ∗ (∃ X, owns (c : Thread nD τ) arg14 fullShare X)
    ∗ onT c arg10 (fun y => 16 ≤ (y 1).val) (fun _ => Scalar.ofBits .f32 0x00000000#32) ∗ owns (c : Thread nD τ) arg12 fullShare expand
    ∗ onT c arg15 (fun y => (y 1).val < n) T)

theorem scr1_scr (n : ℕ) : scr1 (F := F) c T arg9 arg10 arg11 arg12 arg13 arg14 arg15 n ⊢ scr c T arg9 arg10 arg11 arg12 arg13 arg14 arg15 n := by
  unfold scr1 scr onT
  iintro ⟨H9, H11, H13, H14, ⟨%X10, %h10, H10⟩, H12, ⟨%X15, %h15, H15⟩⟩
  iframe H9 H11 H13 H14
  iexists X10; iexists expand; iexists X15
  iframe H10 H12 H15
  ipureintro; exact fun _ => ⟨h10, rfl, h15⟩

theorem wp_setup (hi : (i 0).val = 0) (Q : PUnit → sProp 𝕄) (K : Prog (TpuEff nD τ sig (Elt F) Λ₀ .tc) PUnit) :
    scr (F := F) c T arg9 arg10 arg11 arg12 arg13 arg14 arg15 (i 0).val ⊢
      iprop((scr1 c T arg9 arg10 arg11 arg12 arg13 arg14 arg15 (i 0).val -∗ WP (Γ := Γ) 𝒱 c E K Q) -∗ WP (Γ := Γ) 𝒱 c E (setup arg10 arg12 harg12 arg15 K) Q) := by
  unfold scr scr1 setup onT
  iintro ⟨H9, H11, H13, H14, ⟨%X10, %X12, %X15, %h, H10, H12, H15⟩⟩ HK
  iapply (owns_load 𝒱 c E) $$ H12; iintro H12
  iapply (owns_store 𝒱 c E) $$ H12; iintro H12
  iapply (owns_load 𝒱 c E) $$ H10; iintro H10
  iapply (owns_store 𝒱 c E) $$ H10; iintro H10
  iapply (owns_load 𝒱 c E) $$ H15; iintro H15
  iapply (owns_store 𝒱 c E) $$ H15; iintro H15
  rw [put_full _ inb_S128x2048_S128x2048_0_0, put_full _ inb_S128x128_S128x128_0_0, shapeCast_self, shapeCast_self]
  iapply HK
  iframe H9 H11 H13 H14 H12
  isplitl [H10]
  · iexists _; iframe H10; ipureintro; exact fun y _ => rfl
  iexists _; iframe H15; ipureintro; intro y hy; have hy' : (y 1).val < (i 0).val := hy; omega

/-- The outputs' blocks at point `i`. -/
def outs (i : grid0.Coords) (H : Vec F S128x14336 .bf16) : sProp 𝕄 :=
  iprop(owns (c : Thread nD τ) arg4 fullShare H
    ∗ owns (c : Thread nD τ) arg5 fullShare (c5T H (rstdT H) G)
    ∗ owns (c : Thread nD τ) arg6 fullShare (rsT H (rstdT H) G)
    ∗ owns (c : Thread nD τ) arg7 fullShare (c7T H (rstdT H) G)
    ∗ owns (c : Thread nD τ) arg8 fullShare (if (i 0).val = 11 then c8T T else X8))

theorem wp_copyBlock (X15 : Vec F S112x16x128 .f32) (h15 : Agrees (fun y => (y 1).val < 12) X15 T) (Q : PUnit → sProp 𝕄) (q : ℕ) (hq : q < 112)
    (K : Prog (TpuEff nD τ sig (Elt F) Λ₀ .tc) PUnit) :
    iprop(owns (c : Thread nD τ) arg15 fullShare X15 ∗ onT c arg8 (fun y => (y 1).val < 128 * q) (c8T T)) ⊢
      iprop((iprop(owns (c : Thread nD τ) arg15 fullShare X15 ∗ onT c arg8 (fun y => (y 1).val < 128 * (q + 1)) (c8T T)) -∗ WP (Γ := Γ) 𝒱 c E K Q)
        -∗ WP (Γ := Γ) 𝒱 c E (copyBlock arg8 arg15 (blk q) K) Q) := by
  unfold onT copyBlock
  iintro ⟨H15, ⟨%Y8, %h8, H8⟩⟩ HK
  iapply (owns_load 𝒱 c E) $$ H15; iintro H15
  rw [h15.window (inb_csd (blk q)) (fun y hy => by
    rw [inRect3] at hy
    have e1 : (![(blk q).val, 0, 0] : Fin 3 → ℕ) 1 = 0 := rfl
    have s1 : S1x12x128.size 1 = 12 := rfl
    rw [e1, s1] at hy
    omega)]
  iapply (owns_load 𝒱 c E) $$ H8; iintro H8
  iapply (owns_store 𝒱 c E) $$ H8; iintro H8
  iapply HK
  iframe H15
  iexists _; iframe H8; ipureintro; exact put_cs q hq T h8

theorem wp_rest (hT : CsdAt (sumT x r) (rstdT (sumT x r)) G (i 0).val T) :
    iprop(owns (c : Thread nD τ) arg1 fullShare x ∗ owns (c : Thread nD τ) arg2 fullShare r ∗ owns (c : Thread nD τ) arg3 fullShare G
      ∗ (∃ X, owns (c : Thread nD τ) arg4 fullShare X) ∗ (∃ X, owns (c : Thread nD τ) arg5 fullShare X) ∗ (∃ X, owns (c : Thread nD τ) arg6 fullShare X)
      ∗ (∃ X, owns (c : Thread nD τ) arg7 fullShare X) ∗ owns (c : Thread nD τ) arg8 fullShare X8
      ∗ scr1 c T arg9 arg10 arg11 arg12 arg13 arg14 arg15 (i 0).val) ⊢
    WP (Γ := Γ) 𝒱 c E (rest i arg1 harg1 arg2 harg2 arg3 harg3 arg4 harg4 arg5 harg5 arg6 harg6 arg7 harg7 arg8 harg8 arg9 harg9 arg10 harg10 arg11 harg11 arg12 harg12 arg13 harg13 arg14 harg14 arg15 harg15)
      fun _ => iprop(owns (c : Thread nD τ) arg1 fullShare x ∗ owns (c : Thread nD τ) arg2 fullShare r ∗ owns (c : Thread nD τ) arg3 fullShare G
        ∗ outs c G T X8 arg4 arg5 arg6 arg7 arg8 i (sumT x r) ∗ scr1 c T arg9 arg10 arg11 arg12 arg13 arg14 arg15 ((i 0).val + 1)) := by
  unfold rest scr1 outs
  iintro ⟨H1, H2, H3, ⟨%X4, H4⟩, ⟨%X5, H5⟩, ⟨%X6, H6⟩, ⟨%X7, H7⟩, H8, H9, ⟨%X11, H11⟩, H13, ⟨%X14, H14⟩, H10, H12, H15⟩
  ihave HA : A c x r arg1 arg2 arg4 0 (broadcast S128x128 (Scalar.ofBits .f32 0x00000000#32)) $$ [H1 H2 H4]
  · unfold A onT
    iframe H1 H2
    isplitl [H4]
    · iexists _; iframe H4; ipureintro; intro y hy; have hy' : (y 1).val < 2048 * 0 := hy; omega
    ipureintro; rfl
  iapply (Scf.wp_for_bind frame (wpE Γ 𝒱 (c : Thread nD τ) none) E _ _ _ k0_t1_ok _ _ (A c x r arg1 arg2 arg4)
    (fun k acc => wp_addTrip 𝒱 c E x r arg1 arg2 arg4 harg4 k acc)) $$ HA
  iintro %acc HA
  unfold A onT
  icases HA with ⟨H1, H2, ⟨%X4', %h4, H4⟩, %hacc⟩
  have e4 := h4.all (fun y => by rw [show Scf.trips _ _ _ = 7 from trips1]; exact (y 1).isLt)
  have hacc' : acc = gramT (sumT x r) 7 := hacc.trans (congrArg (gramT (sumT x r)) trips1)
  subst e4 hacc'
  unfold keepRstd
  iapply (owns_load 𝒱 c E) $$ H11; iintro H11
  iapply (owns_store 𝒱 c E) $$ H11; iintro H11
  rw [put_full _ inb_S128x128_S128x128_0_0, shapeCast_self]
  ihave HJ : J c (sumT x r) (rstdT (sumT x r)) G T i arg3 arg4 arg5 arg7 arg9 arg10 arg11 arg12 arg13 arg14 arg15 0 $$ [H3 H4 H11 H12 H9 H13 H10 H5 H14 H7 H15]
  · unfold J onT rstdT
    iframe H3 H4 H11 H12 H9 H13 H10
    isplitl [H5]
    · iexists _; iframe H5; ipureintro; intro y hy; have hy' : (y 1).val < 128 * (16 * 0) := hy; omega
    isplitl [H14]
    · iexists _; iframe H14; ipureintro; intro y hy; have hy' : (y 0).val < 16 * 0 := hy; omega
    isplitl [H7]
    · iexists _; iframe H7; ipureintro; intro y hy; have hy' : (y 0).val < 128 * (16 * 0) := hy; omega
    icases H15 with ⟨%X15, %h15, H15⟩
    iexists _; iframe H15; ipureintro; intro y hy
    refine h15 y ?_
    have hy' : (y 1).val < (i 0).val ∨ (y 1).val = (i 0).val ∧ (y 0).val < 16 * 0 := hy
    show (y 1).val < (i 0).val
    omega
  iapply (Scf.wp_for_bind frame (wpE Γ 𝒱 (c : Thread nD τ) none) E _ _ _ k0_t2_ok _ _
    (fun k _ => J c (sumT x r) (rstdT (sumT x r)) G T i arg3 arg4 arg5 arg7 arg9 arg10 arg11 arg12 arg13 arg14 arg15 k)
    (fun k _ => wp_trip 𝒱 c E (sumT x r) (rstdT (sumT x r)) G T i arg3 arg4 arg5 harg5 arg7 harg7 arg9 arg10 arg11 arg12 arg13 arg14 arg15 k hT)) $$ HJ
  iintro %u HJ
  rw [show Scf.trips _ _ _ = 7 from trips2]
  unfold J onT
  icases HJ with ⟨H3, H4, H11, H12, H9, H13, H10, ⟨%X5', %h5, H5⟩, ⟨%X14', %h14, H14⟩, ⟨%X7', %h7, H7⟩, ⟨%X15, %h15, H15⟩⟩
  have e5 := h5.all (fun y => (y 1).isLt)
  have e14 := h14.all (fun y => (y 0).isLt)
  have e7 := h7.all (fun y => (y 0).isLt)
  subst e5 e14 e7
  have h15' : Agrees (fun y => (y 1).val < (i 0).val + 1) X15 T := fun y hy => h15 y (by
    have hy' : (y 1).val < (i 0).val + 1 := hy
    have h0 : (y 0).val < 112 := (y 0).isLt
    omega)
  unfold outRows
  iapply (owns_load 𝒱 c E) $$ H14; iintro H14
  iapply (owns_load 𝒱 c E) $$ H6; iintro H6
  iapply (owns_store 𝒱 c E) $$ H6; iintro H6
  rw [put_full _ inb_S112x128_S112x128_0_0, window_full (s := S112x128)]
  by_cases hc : (i 0).val = 11
  · rw [dif_pos ((cond2_iff i).mpr hc), if_pos hc]
    ihave HC : iprop(owns (c : Thread nD τ) arg15 fullShare X15 ∗ onT c arg8 (fun y => (y 1).val < 128 * 0) (c8T T)) $$ [H15 H8]
    · unfold onT
      iframe H15
      iexists _; iframe H8; ipureintro; intro y hy; have hy' : (y 1).val < 128 * 0 := hy; omega
    iapply (wp_runK 𝒱 c E _ (fun q => iprop(owns (c : Thread nD τ) arg15 fullShare X15 ∗ onT c arg8 (fun y => (y 1).val < 128 * q) (c8T T))) 112 _
      (fun q hq K => wp_copyBlock 𝒱 c E T arg8 arg15 X15 (fun y hy => h15' y (by rw [hc]; exact hy)) _ q hq K) _ 112 0 rfl) $$ HC
    iintro HC
    unfold onT
    icases HC with ⟨H15, ⟨%Y8, %h8, H8⟩⟩
    have e8 := h8.all (fun y => (y 1).isLt)
    subst e8
    iapply le_wp_ret (M := 𝕄) frame (wpE Γ 𝒱 (c : Thread nD τ) none) E
    iframe H1 H2 H3 H4 H5 H6 H7 H8 H9 H13 H10 H12
    isplitl [H11]; · iexists _; iexact H11
    isplitl [H14]; · iexists _; iexact H14
    iexists _; iframe H15; ipureintro; exact h15'
  · rw [dif_neg (fun h => hc ((cond2_iff i).mp h)), if_neg hc]
    iapply le_wp_ret (M := 𝕄) frame (wpE Γ 𝒱 (c : Thread nD τ) none) E
    iframe H1 H2 H3 H4 H5 H6 H7 H8 H9 H13 H10 H12
    isplitl [H11]; · iexists _; iexact H11
    isplitl [H14]; · iexists _; iexact H14
    iexists _; iframe H15; ipureintro; exact h15'

/-- The body at point `i`. -/
theorem wp_body (hT : CsdAt (sumT x r) (rstdT (sumT x r)) G (i 0).val T) :
    iprop(owns (c : Thread nD τ) arg1 fullShare x ∗ owns (c : Thread nD τ) arg2 fullShare r ∗ owns (c : Thread nD τ) arg3 fullShare G
      ∗ (∃ X, owns (c : Thread nD τ) arg4 fullShare X) ∗ (∃ X, owns (c : Thread nD τ) arg5 fullShare X) ∗ (∃ X, owns (c : Thread nD τ) arg6 fullShare X)
      ∗ (∃ X, owns (c : Thread nD τ) arg7 fullShare X) ∗ owns (c : Thread nD τ) arg8 fullShare X8
      ∗ scr c T arg9 arg10 arg11 arg12 arg13 arg14 arg15 (i 0).val) ⊢
    WP (Γ := Γ) 𝒱 c E (cc0_add_rmsnorm_fp8_quant i arg1 harg1 arg2 harg2 arg3 harg3 arg4 harg4 arg5 harg5 arg6 harg6 arg7 harg7 arg8 harg8 arg9 harg9 arg10 harg10 arg11 harg11 arg12 harg12 arg13 harg13 arg14 harg14 arg15 harg15)
      fun _ => iprop(owns (c : Thread nD τ) arg1 fullShare x ∗ owns (c : Thread nD τ) arg2 fullShare r ∗ owns (c : Thread nD τ) arg3 fullShare G
        ∗ outs c G T X8 arg4 arg5 arg6 arg7 arg8 i (sumT x r) ∗ scr1 c T arg9 arg10 arg11 arg12 arg13 arg14 arg15 ((i 0).val + 1)) := by
  rw [body_eq]
  unfold body
  by_cases hc : (i 0).val = 0
  · rw [dif_pos ((cond1_iff i).mpr hc)]
    iintro ⟨H1, H2, H3, H4, H5, H6, H7, H8, HS⟩
    iapply (wp_setup 𝒱 c E T i arg9 arg10 arg11 arg12 harg12 arg13 arg14 arg15 hc) $$ HS
    iintro HS
    iapply (wp_rest 𝒱 c E x r G T X8 i arg1 harg1 arg2 harg2 arg3 harg3 arg4 harg4 arg5 harg5 arg6 harg6 arg7 harg7 arg8 harg8 arg9 harg9 arg10 harg10 arg11 harg11 arg12 harg12 arg13 harg13 arg14 harg14 arg15 harg15 hT)
    iframe H1 H2 H3 H4 H5 H6 H7 H8 HS
  · rw [dif_neg (fun h => hc ((cond1_iff i).mp h))]
    unfold scr
    iintro ⟨H1, H2, H3, H4, H5, H6, H7, H8, H9, H11, H13, H14, ⟨%X10, %X12, %X15, %h, H10, H12, H15⟩⟩
    obtain ⟨h10, rfl, h15⟩ := h hc
    iapply (wp_rest 𝒱 c E x r G T X8 i arg1 harg1 arg2 harg2 arg3 harg3 arg4 harg4 arg5 harg5 arg6 harg6 arg7 harg7 arg8 harg8 arg9 harg9 arg10 harg10 arg11 harg11 arg12 harg12 arg13 harg13 arg14 harg14 arg15 harg15 hT)
    unfold scr1 onT
    iframe H1 H2 H3 H4 H5 H6 H7 H8 H9 H11 H13 H14 H12
    isplitl [H10]
    · iexists _; iframe H10; ipureintro; exact h10
    · iexists _; iframe H15; ipureintro; exact h15

end Cert.KernelIdeal.Hand

end

end
-- ==== Proof.Run.lean ====
/- The run: the body's triple at each point of the grid, the launch, and the frame; at any float instance. -/
module

public import proofs.«01_k».proof.Proof.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- Point `n` of the grid. -/
def pt (n : ℕ) : Fin cfg0.N := ⟨n % 12, by show n % 12 < grid0.N; rw [N_0]; exact Nat.mod_lt _ (by decide)⟩

theorem coords_val (t : Fin cfg0.N) : ((cfg0.grid.coords t) 0).val = t.val := by
  have h : ∀ t : Fin grid0.N, ((grid0.coords t) 0).val = t.val := by decide
  exact h t

/-- Point `t`'s sums. -/
def Hb (c : Dev nD) (t : Fin cfg0.N) : Vec F S128x14336 .bf16 := sumT (iblk m c 0 t) (iblk m c 1 t)

/-- The column scales' lines, every point's. -/
def csdT (c : Dev nD) : Vec F S112x16x128 .f32 := fun y =>
  scaleOf (colQ (yBlk (Hb m c (pt (y 1).val)) (rstdT (Hb m c (pt (y 1).val))) (iblk m c 2 (pt (y 1).val)) (y 0).val)) (ix2 0 ⟨(y 2).val, (y 2).isLt⟩)

theorem csdAt (c : Dev nD) (t : Fin cfg0.N) :
    CsdAt (sumT (iblk m c 0 t) (iblk m c 1 t)) (rstdT (sumT (iblk m c 0 t) (iblk m c 1 t))) (iblk m c 2 t) ((cfg0.grid.coords t) 0).val (csdT m c) := by
  intro y hy
  have ht : t.val < 12 := N_0 ▸ t.isLt
  have e : pt (y 1).val = t := Fin.ext (by show (y 1).val % 12 = t.val; rw [hy, coords_val]; exact Nat.mod_eq_of_lt ht)
  unfold csdT
  rw [e]; rfl

/-- The invariant before point `n`: what the earlier points left in the scratch, and the generator register. -/
def PhiS (c : Dev nD) (n : ℕ) : sProp 𝕄 :=
  iprop(scr c (csdT m c) (Memref.whole cc0_scratch0) (Memref.whole cc0_scratch1) (Memref.whole cc0_scratch2) (Memref.whole cc0_scratch3)
    (Memref.whole cc0_scratch4) (Memref.whole cc0_scratch5) (Memref.whole cc0_scratch6) n ∗ ∃ r, prngReg c r)

/-- The proof data: the arrays as the region finds them, each output's block at its target. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Hb m c t
    | ⟨4, _⟩ => c5T (Hb m c t) (rstdT (Hb m c t)) (iblk m c 2 t)
    | ⟨5, _⟩ => rsT (Hb m c t) (rstdT (Hb m c t)) (iblk m c 2 t)
    | ⟨6, _⟩ => c7T (Hb m c t) (rstdT (Hb m c t)) (iblk m c 2 t)
    | ⟨7, _⟩ => c8T (csdT m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = Hb m c t := by dsimp only [dats]
theorem after0_4 (c : Dev nD) (t : Fin cfg0.N) : (dats m 0 c).after 4 t = c5T (Hb m c t) (rstdT (Hb m c t)) (iblk m c 2 t) := by dsimp only [dats]
theorem after0_5 (c : Dev nD) (t : Fin cfg0.N) : (dats m 0 c).after 5 t = rsT (Hb m c t) (rstdT (Hb m c t)) (iblk m c 2 t) := by dsimp only [dats]
theorem after0_6 (c : Dev nD) (t : Fin cfg0.N) : (dats m 0 c).after 6 t = c7T (Hb m c t) (rstdT (Hb m c t)) (iblk m c 2 t) := by dsimp only [dats]
theorem after0_7 (c : Dev nD) (t : Fin cfg0.N) : (dats m 0 c).after 7 t = c8T (csdT m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the column scales' buffer holds afterwards: their target at the last point, before it what it held. -/
def post7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ post7 m c t)

theorem post7_of (c : Dev nD) (t : Fin cfg0.N) (d) :
    owns (c : Thread nD τ) (st0_7 t) fullShare (if ((cfg0.grid.coords t) 0).val = 11 then c8T (csdT m c) else (dats m 0 c).before 7 t d) ⊢ post7 m c t := by
  have ht : t.val < 12 := N_0 ▸ t.isLt
  have hid : cfg0.idle 7 (cfg0.grid.coords t) = !(k0_cond2 (cfg0.grid.coords t) == 1#1) := rfl
  unfold post7
  by_cases h : ((cfg0.grid.coords t) 0).val = 11
  · rw [if_pos h, hid, (cond2_iff _).mpr h, after0_7]
    exact .rfl
  · have hf : (cfg0.win 7).flush t = false := by
      rw [Bool.eq_false_iff]; intro hf
      have := (flush0_7 t).mp hf
      rw [coords_val] at h; omega
    have hc : (k0_cond2 (cfg0.grid.coords t) == 1#1) = false := by
      rw [Bool.eq_false_iff]; intro hc; exact h ((cond2_iff _).mp (by simpa using hc))
    rw [if_neg h, hid, hc, hf]
    show _ ⊢ iprop(∃ d, owns (c : Thread nD τ) (st0_7 t) fullShare ((dats m 0 c).before 7 t d))
    iintro H; iexists d; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_castSucc, Phi_succ, show (dats m 0 c).owesAt () t.succ = (dats m 0 c).owesAt () t.castSucc from rfl,
    after0_0, after0_1, after0_2, after0_3, after0_4, after0_5, after0_6]
  unfold PhiS
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r (M := 𝕄) frame (wpE (defs₀ (F := F)) Variants.none (c : Thread nD τ) none) Set.univ)
  isplitl [HS H0 H1 H2 H3 H4 H5 H6 H7]
  · iapply (wp_body (Γ := defs₀ (F := F)) Variants.none c Set.univ (iblk m c 0 t) (iblk m c 1 t) (iblk m c 2 t) (csdT m c) ((dats m 0 c).before 7 t d7)
      (grid0.coords t) _ _ _ _ _ _ _ _ _ _ _ _ _ _ _ _ _ _ _ _ _ _ _ _ _ _ _ _ _ _ (csdAt m c t))
    iframe H0 H1 H2 H7
    rw [coords_val]
    iframe HS
    isplitl [H3]; · iexists _; iexact H3
    isplitl [H4]; · iexists _; iexact H4
    isplitl [H5]; · iexists _; iexact H5
    iexists _; iexact H6
  · unfold outs
    iintro %u ⟨H0, H1, H2, ⟨H3, H4, H5, H6, H7⟩, HS⟩
    iframe HP Ho H0 H1 H2
    isplitl [HS]
    · rw [coords_val]
      iapply (scr1_scr c (csdT m c) _ _ _ _ _ _ _ (t.val + 1)) $$ HS
    isplitl [H3]; · iexact H3
    isplitl [H4]; · iexact H4
    isplitl [H5]; · iexact H5
    isplitl [H6]; · iexact H6
    iapply (post7_of m c t d7) $$ H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : (Pipeline.ΦA spec0 c : sProp 𝕄) ⊢ (dats m 0 c).Φ 0 := by
  rw [show (dats m 0 c).Φ 0 = PhiS m c 0 from by dsimp only [dats]; rfl]
  unfold Pipeline.ΦA PhiS scr
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩⟩, HP⟩
  iframe HP
  isplitl [H0]; · iexists _; iexact H0
  isplitl [H2]; · iexists _; iexact H2
  isplitl [H4]; · iexists _; iexact H4
  isplitl [H5]; · iexists _; iexact H5
  iexists f1; iexists f3; iexists f6
  isplitr
  · ipureintro; exact fun h => absurd rfl h
  isplitl [H1]; · iexact H1
  isplitl [H3]; · iexact H3
  iexact H6

theorem hout (c : Dev nD) : (dats m 0 c).Φ (Fin.last cfg0.N) ⊢ (Pipeline.ΦA spec0 c : sProp 𝕄) := by
  rw [show (dats m 0 c).Φ (Fin.last cfg0.N) = PhiS m c cfg0.N from by dsimp only [dats]; rfl]
  unfold Pipeline.ΦA PhiS scr
  rw [scopedRest0_eq]
  simp only [owns_whole]
  iintro ⟨⟨H0, H2, H4, H5, ⟨%f1, %f3, %f6, %h, H1, H3, H6⟩⟩, HP⟩
  iframe HP
  isplitl [H0]; · iexact H0
  isplitl [H1]; · iexists _; iexact H1
  isplitl [H2]; · iexact H2
  isplitl [H3]; · iexists _; iexact H3
  isplitl [H4]; · iexact H4
  isplitl [H5]; · iexact H5
  iexists _; iexact H6

set_option backward.isDefEq.respectTransparency.types false in
/-- The run: every array of the pipeline as the proof data says, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (hQ' := fun _ h => h)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main m ρ))

end Cert.KernelIdeal.Hand

end

end
-- ==== Proof.Transport.lean ====
/- The printed kernel and its idealization are the same program (the idealization rewrote no operation): what is proved
   of the one at any float instance holds of the other. -/
module

public import proofs.«01_k».proof.Proof.Run
public import proofs.«01_k».proof.Proof.Gen.Kernel

@[expose] public section

set_option maxRecDepth 16384

namespace Cert.Hand

open Idealize.ShloMosaic Idealize.ShloMosaic.TcCoe Idealize.SL.Sem

variable {F : FTy → Type} [FloatOps F]

theorem body_same : (fun i => Cert.Kernel.cc0_add_rmsnorm_fp8_quant (F := F) i) = fun i => Cert.KernelIdeal.cc0_add_rmsnorm_fp8_quant (F := F) i := rfl

theorem defs₀_same : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => rfl

theorem cfg0_same : Cert.Kernel.cfg0 = Cert.KernelIdeal.cfg0 := rfl

theorem defs_heq {C C' : Pipeline.Cfg Cert.KernelIdeal.sig Cert.KernelIdeal.Λ₀} (h : C = C')
    (D : Defs Cert.KernelIdeal.nD Cert.KernelIdeal.τ Cert.KernelIdeal.sig (Elt F) Cert.KernelIdeal.Λ₀) :
    HEq (Pipeline.defs (fun _ : Fin 1 => C.toPCfg (Val := Elt F)) D) (Pipeline.defs (fun _ : Fin 1 => C'.toPCfg (Val := Elt F)) D) := by
  subst h; rfl

theorem defs_same : Cert.Kernel.defs (F := F) = Cert.KernelIdeal.defs (F := F) := by
  unfold Cert.Kernel.defs Cert.KernelIdeal.defs
  rw [defs₀_same]
  exact eq_of_heq (defs_heq cfg0_same _)

theorem main_same : Cert.Kernel.main (F := F) = Cert.KernelIdeal.main (F := F) := rfl

/-- The frame of the printed kernel. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_same, main_same]
  exact Cert.KernelIdeal.Hand.frame (F := F) m ρ

end Cert.Hand

end
-- ==== Proof.Scale.lean ====
/- The quantiser's scale over the reals: the kernel's exponent search and the reference's table of powers of two give the
   same scale, and the kernel's inverse is one over it. -/
module

public import Idealize.ShloMosaic.PureOps.Ideal.Laws
public import Idealize.ShloMosaic.Lib.IdealHost

@[expose] public section

noncomputable section

namespace Cert.Hand

open Idealize.ShloMosaic

/-- The number a word stands for. -/
abbrev num (w : BitVec 32) : EReal := Ideal.ofBits .f32 w

/-- A word of exponent `n` and nothing else. -/
abbrev expWord (n : ℕ) : BitVec 32 := BitVec.ofNat 32 (n * 2 ^ 23)

/-- A word with exponent field `n`, no sign and no fraction, as a number. -/
theorem ieee_of_fields (w : BitVec 32) (n : ℕ) (e1 : (BitVec.extractLsb' 23 8 w).toNat = n) (e2 : (BitVec.extractLsb' 0 23 w).toNat = 0)
    (e3 : BitVec.extractLsb' 31 1 w = 0#1) :
    Ideal.ieee 8 23 w = if n = 255 then ⊤ else if n = 0 then 0 else (((2 : ℝ) ^ ((n : ℤ) - 127) : ℝ) : EReal) := by
  unfold Ideal.ieee
  simp only [e1, e2]
  rw [show (8 + 23 : ℕ) = 31 from rfl, e3]
  by_cases h : n = 255
  · rw [if_pos (by rw [h]; norm_num), if_pos h]
    simp
  · by_cases h0 : n = 0
    · rw [if_neg (by rw [h0]; norm_num), if_pos h0, if_neg h, if_pos h0]
      simp
    · rw [if_neg (by norm_num; exact h), if_neg h0, if_neg h, if_neg h0]
      refine congrArg _ ?_
      have : (2 : ℝ) ^ ((n : ℤ) - 127) = 2 ^ (23 : ℤ) * 2 ^ ((n : ℤ) - 127 - 23) := by
        rw [← zpow_add₀ (by norm_num)]; congr 1; ring
      rw [this]
      norm_num

theorem expWord_toNat (n : ℕ) (hn : n < 256) : (expWord n).toNat = n * 2 ^ 23 := by
  rw [BitVec.toNat_ofNat, Nat.mod_eq_of_lt (by omega)]

/-- Such a word's number. -/
theorem num_expWord (n : ℕ) (hn : n < 256) :
    num (expWord n) = if n = 255 then ⊤ else if n = 0 then 0 else (((2 : ℝ) ^ ((n : ℤ) - 127) : ℝ) : EReal) := by
  have hw := expWord_toNat n hn
  generalize expWord n = w at hw
  refine ieee_of_fields w n ?_ ?_ ?_
  · rw [BitVec.extractLsb'_toNat, hw, Nat.shiftRight_eq_div_pow]; omega
  · rw [BitVec.extractLsb'_toNat, hw, Nat.shiftRight_eq_div_pow]; omega
  · apply BitVec.eq_of_toNat_eq
    rw [BitVec.extractLsb'_toNat, hw, Nat.shiftRight_eq_div_pow, Nat.mul_comm, show (2 : ℕ) ^ 31 = 2 ^ 23 * 2 ^ 8 by norm_num,
      Nat.mul_div_mul_left _ _ (by norm_num), Nat.div_eq_of_lt (by norm_num; exact hn)]
    rfl

/-- One step of the search. -/
def stepS (q : EReal) (b w : BitVec 32) : BitVec 32 := if num (w ||| b) ≤ q then w ||| b else w

/-- The search. -/
def fieldS (q : EReal) : BitVec 32 :=
  stepS q 8388608#32 (stepS q 16777216#32 (stepS q 33554432#32 (stepS q 67108864#32
    (stepS q 134217728#32 (stepS q 268435456#32 (stepS q 536870912#32 (stepS q 1073741824#32 0#32)))))))

/-- The step on exponents. -/
def stepN (e b n : ℕ) : ℕ := if n ||| b ≤ e then n ||| b else n

/-- The search on exponents finds the exponent. -/
theorem searchN : ∀ e < 256, stepN e 1 (stepN e 2 (stepN e 4 (stepN e 8 (stepN e 16 (stepN e 32 (stepN e 64 (stepN e 128 0))))))) = e := by
  decide +kernel

theorem expWord_or (n b : ℕ) (hn : n < 256) (hb : b < 256) : expWord n ||| expWord b = expWord (n ||| b) := by
  apply BitVec.eq_of_toNat_eq
  have h : n ||| b < 2 ^ 8 := Nat.or_lt_two_pow hn hb
  rw [BitVec.toNat_or, BitVec.toNat_ofNat, BitVec.toNat_ofNat, BitVec.toNat_ofNat, Nat.mod_eq_of_lt (by omega), Nat.mod_eq_of_lt (by omega),
    Nat.mod_eq_of_lt (by omega), ← Nat.shiftLeft_eq, ← Nat.shiftLeft_eq, ← Nat.shiftLeft_eq, Nat.shiftLeft_or_distrib]

/-- `q` lies in the binade of exponent `e`. -/
def Binade (e : ℕ) (q : EReal) : Prop :=
  1 ≤ e ∧ e ≤ 252 ∧ (((2 : ℝ) ^ ((e : ℤ) - 127) : ℝ) : EReal) ≤ q ∧ q < (((2 : ℝ) ^ ((e : ℤ) - 126) : ℝ) : EReal)

theorem coe_pow_le {a b : ℤ} : ((((2 : ℝ) ^ a : ℝ)) : EReal) ≤ (((2 : ℝ) ^ b : ℝ) : EReal) ↔ a ≤ b := by
  rw [EReal.coe_le_coe_iff]; exact zpow_le_zpow_iff_right₀ (by norm_num)

/-- In that binade the words' numbers compare as their exponents. -/
theorem num_le_iff {e : ℕ} {q : EReal} (h : Binade e q) (n : ℕ) (hn : n < 256) : num (expWord n) ≤ q ↔ n ≤ e := by
  obtain ⟨h1, h2, h3, h4⟩ := h
  rw [num_expWord n hn]
  split
  · rename_i h5
    have : ¬ (⊤ : EReal) ≤ q := fun h6 => absurd (lt_of_le_of_lt h6 h4) not_top_lt
    simp only [this, false_iff]; omega
  · split
    · rename_i h5 h6
      have h0 : (0 : EReal) ≤ q := le_trans (by exact_mod_cast (by positivity : (0 : ℝ) ≤ (2 : ℝ) ^ ((e : ℤ) - 127))) h3
      simp only [h0, h6, true_iff]; omega
    · constructor
      · intro h7
        by_contra h8
        have : (((2 : ℝ) ^ ((e : ℤ) - 126) : ℝ) : EReal) ≤ (((2 : ℝ) ^ ((n : ℤ) - 127) : ℝ) : EReal) := coe_pow_le.2 (by omega)
        exact absurd (lt_of_le_of_lt (this.trans h7) h4) (lt_irrefl _)
      · intro h7
        exact (coe_pow_le.2 (by omega)).trans h3

theorem stepS_eq {e : ℕ} {q : EReal} (h : Binade e q) (b n : ℕ) (hn : n < 256) (hb : b < 256) :
    stepS q (expWord b) (expWord n) = expWord (stepN e b n) := by
  unfold stepS stepN
  have hlt : n ||| b < 2 ^ 8 := Nat.or_lt_two_pow hn hb
  rw [expWord_or n b hn hb]
  simp only [num_le_iff h _ hlt]
  split <;> rfl

theorem stepN_lt (e b n : ℕ) (hn : n < 256) (hb : b < 256) : stepN e b n < 256 := by
  unfold stepN
  have hlt : n ||| b < 2 ^ 8 := Nat.or_lt_two_pow hn hb
  split <;> omega

/-- The search finds the exponent. -/
theorem fieldS_eq {e : ℕ} {q : EReal} (h : Binade e q) : fieldS q = expWord e := by
  have he : e < 256 := by have := h.2.1; omega
  unfold fieldS
  rw [show (8388608#32 : BitVec 32) = expWord 1 from by decide, show (16777216#32 : BitVec 32) = expWord 2 from by decide,
    show (33554432#32 : BitVec 32) = expWord 4 from by decide, show (67108864#32 : BitVec 32) = expWord 8 from by decide,
    show (134217728#32 : BitVec 32) = expWord 16 from by decide, show (268435456#32 : BitVec 32) = expWord 32 from by decide,
    show (536870912#32 : BitVec 32) = expWord 64 from by decide, show (1073741824#32 : BitVec 32) = expWord 128 from by decide,
    show (0#32 : BitVec 32) = expWord 0 from by decide]
  have l0 : (0 : ℕ) < 256 := by omega
  have l1 := stepN_lt e 128 _ l0 (by omega)
  have l2 := stepN_lt e 64 _ l1 (by omega)
  have l3 := stepN_lt e 32 _ l2 (by omega)
  have l4 := stepN_lt e 16 _ l3 (by omega)
  have l5 := stepN_lt e 8 _ l4 (by omega)
  have l6 := stepN_lt e 4 _ l5 (by omega)
  have l7 := stepN_lt e 2 _ l6 (by omega)
  rw [stepS_eq h 128 _ l0 (by omega), stepS_eq h 64 _ l1 (by omega), stepS_eq h 32 _ l2 (by omega), stepS_eq h 16 _ l3 (by omega),
    stepS_eq h 8 _ l4 (by omega), stepS_eq h 4 _ l5 (by omega), stepS_eq h 2 _ l6 (by omega), stepS_eq h 1 _ l7 (by omega), searchN e he]

/-- The kernel's scale. -/
def scaleK (q : EReal) : EReal := if q < num 0x00800000#32 then 1 else num (fieldS q + 8388608#32)

/-- The kernel's inverse. -/
def invK (q : EReal) : EReal := if q < num 0x00800000#32 then 1 else num (2130706432#32 - (fieldS q + 8388608#32))

/-- The reference's table. -/
def tableR (k : Fin 253) : EReal := Ideal.pow 2 (-125 + ((k.val : ℝ) : EReal))

/-- The least power of two of the table above `q`. -/
def aboveR (q : EReal) : EReal := (Finset.univ : Finset (Fin 253)).fold min ⊤ fun k => if q < tableR k then tableR k else ⊤

/-- The reference's scale. -/
def scaleR (q : EReal) : EReal := if q < num 0x00800000#32 then 1 else aboveR q

theorem tableR_eq (k : Fin 253) : tableR k = (((2 : ℝ) ^ ((k.val : ℤ) - 125) : ℝ) : EReal) := by
  unfold tableR
  have e : (-125 + ((k.val : ℝ) : EReal)) = ((-125 + (k.val : ℝ) : ℝ) : EReal) := by
    rw [EReal.coe_add]; rfl
  have e2 : (2 : EReal) = ((2 : ℝ) : EReal) := rfl
  rw [e, e2, Ideal.pow_coe_coe]
  congr 1
  show (2 : ℝ) ^ (-125 + (k.val : ℝ)) = _
  rw [show (-125 + (k.val : ℝ)) = (((k.val : ℤ) - 125 : ℤ) : ℝ) by push_cast; ring, Real.rpow_intCast]

theorem aboveR_eq {e : ℕ} {q : EReal} (h : Binade e q) : aboveR q = (((2 : ℝ) ^ ((e : ℤ) - 126) : ℝ) : EReal) := by
  obtain ⟨h1, h2, h3, h4⟩ := h
  unfold aboveR
  have ek : tableR ⟨e - 1, by omega⟩ = (((2 : ℝ) ^ ((e : ℤ) - 126) : ℝ) : EReal) := by
    rw [tableR_eq]; congr 2; show ((e - 1 : ℕ) : ℤ) - 125 = _; omega
  apply le_antisymm
  · rw [Finset.fold_min_le]
    right
    refine ⟨⟨e - 1, by omega⟩, Finset.mem_univ _, ?_⟩
    rw [ek, if_pos h4]
  · rw [Finset.le_fold_min]
    refine ⟨le_top, fun k _ => ?_⟩
    split
    · rename_i h5
      rw [tableR_eq] at h5 ⊢
      have h6 := lt_of_le_of_lt h3 h5
      rw [coe_pow_le]
      by_contra h7
      exact absurd (lt_of_lt_of_le h6 (coe_pow_le.2 (by omega))) (lt_irrefl _)
    · exact le_top

theorem tiny_eq : num 0x00800000#32 = (((2 : ℝ) ^ (-126 : ℤ) : ℝ) : EReal) := by
  rw [show (0x00800000#32 : BitVec 32) = expWord 1 from by decide, num_expWord 1 (by omega)]
  norm_num

/-- A `q` from the least normal up to 2^126 lies in some binade. -/
theorem exists_binade {q : EReal} (h0 : ¬ q < num 0x00800000#32) (h1 : q < (((2 : ℝ) ^ (126 : ℤ) : ℝ) : EReal)) : ∃ e, Binade e q := by
  rw [tiny_eq, not_lt] at h0
  have hT : q ≠ ⊤ := fun h => absurd h1 (by rw [h]; exact not_top_lt)
  have hB : q ≠ ⊥ := fun h => absurd h0 (by rw [h]; exact not_le.2 (EReal.bot_lt_coe _))
  lift q to ℝ using ⟨hT, hB⟩
  rw [EReal.coe_le_coe_iff] at h0
  rw [EReal.coe_lt_coe_iff] at h1
  have hq : 0 < q := lt_of_lt_of_le (by positivity) h0
  obtain ⟨n, a, b⟩ := exists_mem_Ico_zpow hq (y := (2 : ℝ)) (by norm_num)
  have hlo : (-126 : ℤ) < n + 1 := (zpow_lt_zpow_iff_right₀ (by norm_num : (1 : ℝ) < 2)).1 (lt_of_le_of_lt h0 b)
  have hhi : n < 126 := (zpow_lt_zpow_iff_right₀ (by norm_num : (1 : ℝ) < 2)).1 (lt_of_le_of_lt a h1)
  refine ⟨(n + 127).toNat, by omega, by omega, ?_, ?_⟩
  · rw [EReal.coe_le_coe_iff, show (((n + 127).toNat : ℕ) : ℤ) - 127 = n by omega]; exact a
  · rw [EReal.coe_lt_coe_iff, show (((n + 127).toNat : ℕ) : ℤ) - 126 = n + 1 by omega]; exact b

theorem scale_word (e : ℕ) (he : e < 253) : expWord e + 8388608#32 = expWord (e + 1) := by
  apply BitVec.eq_of_toNat_eq
  rw [BitVec.toNat_add, expWord_toNat e (by omega), expWord_toNat (e + 1) (by omega), show (8388608#32 : BitVec 32).toNat = 2 ^ 23 from rfl]
  omega

theorem inv_word (e : ℕ) (he : e < 253) : 2130706432#32 - (expWord e + 8388608#32) = expWord (253 - e) := by
  rw [scale_word e he]
  apply BitVec.eq_of_toNat_eq
  rw [BitVec.toNat_sub, expWord_toNat (e + 1) (by omega), expWord_toNat (253 - e) (by omega), show (2130706432#32 : BitVec 32).toNat = 254 * 2 ^ 23 from rfl]
  omega

/-- The kernel's scale is the reference's. -/
theorem scaleK_eq {q : EReal} (h1 : q < (((2 : ℝ) ^ (126 : ℤ) : ℝ) : EReal)) : scaleK q = scaleR q := by
  unfold scaleK scaleR
  split
  · rfl
  · rename_i h0
    obtain ⟨e, h⟩ := exists_binade h0 h1
    have := h.1; have := h.2.1
    rw [fieldS_eq h, aboveR_eq h, scale_word e (by omega),
      num_expWord _ (by omega), if_neg (by omega), if_neg (by omega)]
    congr 2
    push_cast; ring

/-- The kernel's inverse is one over the reference's scale. -/
theorem invK_eq {q : EReal} (h1 : q < (((2 : ℝ) ^ (126 : ℤ) : ℝ) : EReal)) : invK q = Ideal.div 1 (scaleR q) := by
  unfold invK scaleR
  split
  · rw [show (1 : EReal) = ((1 : ℝ) : EReal) from rfl, Ideal.div_coe (by norm_num)]; norm_num
  · rename_i h0
    obtain ⟨e, h⟩ := exists_binade h0 h1
    have := h.1; have := h.2.1
    rw [fieldS_eq h, aboveR_eq h, inv_word e (by omega), num_expWord _ (by omega), if_neg (by omega), if_neg (by omega), Ideal.div_coe (by positivity), one_mul]
    congr 1
    rw [one_div, ← zpow_neg]
    congr 1
    omega

end Cert.Hand

end

end
-- ==== Proof.Bound.lean ====
/- The normalised values over the reals: what the rows' factor bounds, and so what the scales' arguments stay below. -/
module

public import proofs.«01_k».proof.Proof.Scale

@[expose] public section

noncomputable section

namespace Cert.Hand

open Idealize.ShloMosaic
open scoped BigOperators

/-- The rows' factor of a row `h`: the reciprocal root of the mean square. -/
def rstdS (h : Fin 14336 → EReal) : EReal :=
  Ideal.rsqrt (Ideal.div (∑ k, h k * h k) (num 0x46600000#32) + num 0x358637BD#32)

theorem num_rows : num 0x46600000#32 = ((14336 : ℝ) : EReal) := by
  simp [num, Ideal.ofBits, Ideal.ieee, -EReal.coe_mul]; norm_num

theorem num_eps : num 0x358637BD#32 = ((8796093 * 2 ^ (-43 : ℤ) : ℝ) : EReal) := by
  simp [num, Ideal.ofBits, Ideal.ieee, -EReal.coe_mul]

theorem num_c : num 0x3B124925#32 = ((9586981 * 2 ^ (-32 : ℤ) : ℝ) : EReal) := by
  simp [num, Ideal.ofBits, Ideal.ieee, -EReal.coe_mul]

theorem num_gamma : num 0x7F61B1E6#32 = ((14791142 * 2 ^ (104 : ℤ) : ℝ) : EReal) := by
  simp [num, Ideal.ofBits, Ideal.ieee, -EReal.coe_mul]

theorem num_bot : num 0xFF800000#32 = ⊥ := by
  simp [num, Ideal.ofBits, Ideal.ieee]

theorem num_top : num 0x7F800000#32 = ⊤ := by
  simp [num, Ideal.ofBits, Ideal.ieee]

theorem num_two : num 0x40000000#32 = 2 := by
  have : num 0x40000000#32 = ((2 : ℝ) : EReal) := by
    simp [num, Ideal.ofBits, Ideal.ieee, -EReal.coe_mul]; norm_num
  rw [this]; rfl

theorem num_125 : num 0xC2FA0000#32 = -125 := by
  have : num 0xC2FA0000#32 = ((-125 : ℝ) : EReal) := by
    simp [num, Ideal.ofBits, Ideal.ieee, -EReal.coe_mul, -EReal.coe_neg]; norm_num
  rw [this]; rfl

theorem mul_self_nonneg' (x : EReal) : 0 ≤ x * x := by
  induction x using EReal.rec with
  | bot => simp
  | top => simp
  | coe r => rw [← EReal.coe_mul]; exact_mod_cast mul_self_nonneg r

theorem coe_sum' (s : Finset (Fin 14336)) (f : Fin 14336 → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A row's element times the row's factor is a real of size at most 120. -/
theorem unit_bound (h : Fin 14336 → EReal) (k : Fin 14336) : ∃ r : ℝ, h k * rstdS h = (r : EReal) ∧ |r| ≤ 120 := by
  by_cases hr : ∀ j, h j ≠ ⊤ ∧ h j ≠ ⊥
  · choose g hg using fun j => (show ∃ g : ℝ, h j = (g : EReal) from ⟨(h j).toReal, (EReal.coe_toReal (hr j).1 (hr j).2).symm⟩)
    have hs : (∑ j, h j * h j) = ((∑ j, g j * g j : ℝ) : EReal) := by
      rw [coe_sum']; exact Finset.sum_congr rfl fun j _ => by rw [hg j, EReal.coe_mul]
    set S : ℝ := ∑ j, g j * g j with hS
    have hS0 : 0 ≤ S := Finset.sum_nonneg fun j _ => mul_self_nonneg _
    have hk : g k * g k ≤ S := Finset.single_le_sum (f := fun j => g j * g j) (fun j _ => mul_self_nonneg _) (Finset.mem_univ k)
    clear_value S
    set v : ℝ := S * (1 / 14336) + 8796093 * 2 ^ (-43 : ℤ) with hv
    have hv0 : 0 < v := by have : (0 : ℝ) < 8796093 * 2 ^ (-43 : ℤ) := by positivity
                           have : 0 ≤ S * (1 / 14336) := mul_nonneg hS0 (by norm_num)
                           linarith
    clear_value v
    have hrs : rstdS h = (((Real.sqrt v)⁻¹ : ℝ) : EReal) := by
      unfold rstdS
      rw [hs, num_rows, num_eps, Ideal.div_coe (by norm_num), ← EReal.coe_mul, ← EReal.coe_add, ← hv, Ideal.rsqrt_coe,
        if_neg (not_lt.2 hv0.le), if_neg hv0.ne']
    refine ⟨g k * (Real.sqrt v)⁻¹, by rw [hrs, hg k, EReal.coe_mul], ?_⟩
    have hq : 0 < Real.sqrt v := Real.sqrt_pos.2 hv0
    rw [abs_mul, abs_of_pos (inv_pos.2 hq), ← div_eq_mul_inv, div_le_iff₀ hq]
    apply abs_le_of_sq_le_sq _ (mul_nonneg (by norm_num) hq.le)
    rw [mul_pow, Real.sq_sqrt hv0.le, hv]
    have : (0 : ℝ) < 8796093 * 2 ^ (-43 : ℤ) := by positivity
    nlinarith
  · push Not at hr
    obtain ⟨j, hj⟩ := hr
    have hjj : h j * h j = ⊤ := by
      by_cases ht : h j = ⊤
      · rw [ht]; rfl
      · rw [hj ht]; rfl
    have hs : (∑ j, h j * h j) = ⊤ := by
      apply top_unique
      rw [← hjj]
      exact Finset.single_le_sum (f := fun j => h j * h j) (fun j _ => mul_self_nonneg' _) (Finset.mem_univ j)
    have hrs : rstdS h = 0 := by
      unfold rstdS
      rw [hs, num_rows, num_eps, Ideal.div_coe (by norm_num), EReal.top_mul_coe_of_pos (by norm_num), EReal.top_add_coe, Ideal.rsqrt_top]
    exact ⟨0, by rw [hrs, mul_zero]; rfl, by norm_num⟩

/-- The bound on the weights. -/
def GammaOk (g : EReal) : Prop := max g (-g) ≤ num 0x7F61B1E6#32

/-- A normalised value. -/
def yS (h : Fin 14336 → EReal) (k : Fin 14336) (g : EReal) : EReal := h k * rstdS h * g

/-- What the values stay below. -/
def yMax : EReal := ((120 * (14791142 * 2 ^ (104 : ℤ)) : ℝ) : EReal)

theorem y_bound (h : Fin 14336 → EReal) (k : Fin 14336) (g : EReal) (hg : GammaOk g) :
    max (yS h k g) (-(yS h k g)) ≤ yMax := by
  obtain ⟨r, hr, hb⟩ := unit_bound h k
  unfold GammaOk at hg
  rw [num_gamma, max_le_iff] at hg
  have hT : g ≠ ⊤ := fun e => absurd hg.1 (by rw [e]; exact not_le.2 (EReal.coe_lt_top _))
  have hB : g ≠ ⊥ := fun e => absurd hg.2 (by rw [e, EReal.neg_bot]; exact not_le.2 (EReal.coe_lt_top _))
  lift g to ℝ using ⟨hT, hB⟩
  rw [← EReal.coe_neg, EReal.coe_le_coe_iff, EReal.coe_le_coe_iff] at hg
  unfold yS yMax
  rw [hr, ← EReal.coe_mul, ← EReal.coe_neg, max_le_iff, EReal.coe_le_coe_iff, EReal.coe_le_coe_iff]
  have ha : |g| ≤ 14791142 * 2 ^ (104 : ℤ) := abs_le'.2 hg
  have : |r * g| ≤ 120 * (14791142 * 2 ^ (104 : ℤ)) := by
    rw [abs_mul]; exact mul_le_mul hb ha (abs_nonneg _) (by norm_num)
  exact abs_le'.1 this

/-- So the scales' arguments stay below 2^126. -/
theorem q_bound {a : EReal} (h0 : 0 ≤ a) (h : a ≤ yMax) : a * num 0x3B124925#32 < (((2 : ℝ) ^ (126 : ℤ) : ℝ) : EReal) := by
  unfold yMax at h
  have hT : a ≠ ⊤ := fun e => absurd h (by rw [e]; exact not_le.2 (EReal.coe_lt_top _))
  have hB : a ≠ ⊥ := fun e => absurd h0 (by rw [e]; exact not_le.2 (EReal.bot_lt_coe _))
  lift a to ℝ using ⟨hT, hB⟩
  rw [EReal.coe_le_coe_iff] at h
  rw [num_c, ← EReal.coe_mul, EReal.coe_lt_coe_iff]
  calc a * (9586981 * 2 ^ (-32 : ℤ)) ≤ 120 * (14791142 * 2 ^ (104 : ℤ)) * (9586981 * 2 ^ (-32 : ℤ)) := mul_le_mul_of_nonneg_right h (by positivity)
    _ < (2 : ℝ) ^ (126 : ℤ) := by norm_num

/-- The largest absolute value of a group, over `0`. -/
def amaxS (v : Fin 128 → EReal) : EReal := (Finset.univ : Finset (Fin 128)).fold max (num 0xFF800000#32) fun j => max (v j) (-(v j))

theorem amax_nonneg (v : Fin 128 → EReal) : 0 ≤ amaxS v := by
  unfold amaxS
  rw [Finset.le_fold_max]
  right
  refine ⟨0, Finset.mem_univ _, ?_⟩
  rcases le_total 0 (v 0) with h | h
  · exact le_max_of_le_left h
  · exact le_max_of_le_right (by rw [← neg_zero]; exact EReal.neg_le_neg_iff.2 h)

theorem amax_le (v : Fin 128 → EReal) (b : EReal) (h : ∀ j, max (v j) (-(v j)) ≤ b) : amaxS v ≤ b := by
  unfold amaxS
  rw [Finset.fold_max_le]
  exact ⟨by rw [num_bot]; exact bot_le, fun j _ => h j⟩

/-- A group whose values stay below has a scale argument below 2^126. -/
theorem amax_q (v : Fin 128 → EReal) (h : ∀ j, max (v j) (-(v j)) ≤ yMax) :
    amaxS v * num 0x3B124925#32 < (((2 : ℝ) ^ (126 : ℤ) : ℝ) : EReal) := q_bound (amax_nonneg v) (amax_le v _ h)

end Cert.Hand

end

end
-- ==== Proof.Spec.lean ====
/- The five results as plain functions of the rows and the weights, shared by the kernel's side and the reference's. -/
module

public import proofs.«01_k».proof.Proof.Bound

@[expose] public section

noncomputable section

namespace Cert.Hand

open Idealize.ShloMosaic
open scoped BigOperators

/-- A group's scale argument: its largest absolute value over 448. -/
def qS (v : Fin 128 → EReal) : EReal := amaxS v * num 0x3B124925#32

/-- Clipping to the fp8 range. -/
def clipS (v : EReal) : EReal := min (num 0x43E00000#32) (max (num 0xC3E00000#32) v)

/-- A code: the value over its group's scale, clipped. -/
def codeS (y : EReal) (v : Fin 128 → EReal) : EReal := clipS (y * Ideal.div 1 (scaleR (qS v)))

variable (H : Fin 1536 → Fin 14336 → EReal) (G : Fin 14336 → EReal)

/-- The normalised values. -/
def Y (n : Fin 1536) (k : Fin 14336) : EReal := yS (H n) k (G k)

/-- Group `g` of a row's values. -/
def rowG (n : Fin 1536) (g : Fin 112) : Fin 128 → EReal := fun j => Y H G n ⟨128 * g.val + j.val, by omega⟩

/-- Group `b` of a column's values. -/
def colG (b : Fin 12) (k : Fin 14336) : Fin 128 → EReal := fun i => Y H G ⟨128 * b.val + i.val, by omega⟩ k

/-- The row codes, -/
def codeRow (n : Fin 1536) (k : Fin 14336) : EReal := codeS (Y H G n k) (rowG H G n ⟨k.val / 128, by omega⟩)
/-- the row scales, -/
def scaleRow (n : Fin 1536) (g : Fin 112) : EReal := scaleR (qS (rowG H G n g))
/-- the column codes, -/
def codeCol (k : Fin 14336) (n : Fin 1536) : EReal := codeS (Y H G n k) (colG H G ⟨n.val / 128, by omega⟩ k)
/-- the column scales. -/
def scaleCol (k : Fin 14336) (b : Fin 12) : EReal := scaleR (qS (colG H G b k))

/-- With the weights bounded every group's scale argument stays below 2^126. -/
theorem qS_lt (v : Fin 128 → EReal) (h : ∀ j, max (v j) (-(v j)) ≤ yMax) : qS v < (((2 : ℝ) ^ (126 : ℤ) : ℝ) : EReal) := amax_q v h

theorem Y_bound (hG : ∀ k, GammaOk (G k)) (n : Fin 1536) (k : Fin 14336) : max (Y H G n k) (-(Y H G n k)) ≤ yMax := y_bound _ _ _ (hG k)

end Cert.Hand

end

end
-- ==== Proof.KVal.lean ====
/- The kernel's targets at `Ideal`, an element at a time. -/
module

public import proofs.«01_k».proof.Proof.Spec
public import proofs.«01_k».proof.Proof.Body
public import Idealize.ShloMosaic.Lib.ValueIdx
public import Idealize.ShloMosaic.Lib.ValueLayout
public import Idealize.ShloMosaic.Lib.ValueLayoutCasts
public import Idealize.ShloMosaic.Lib.MatmulPlain

@[expose] public section

set_option maxRecDepth 16384

noncomputable section

namespace Cert.KernelIdeal.Hand

open Idealize.ShloMosaic Idealize.SL.Sem Idealize.ShloMosaic.ValueIdx
open Facts₀ Facts
open Cert.Hand
open scoped BigOperators

/-! ## The quantiser -/

theorem select_dec {α : Type} (P : Prop) [Decidable P] (a b : α) : Scalar.select (BitVec.ofBool (decide P)) a b = if P then a else b := by
  by_cases h : P
  · rw [if_pos h, decide_eq_true h]; exact select_one a b
  · rw [if_neg h, decide_eq_false h]; exact select_zero a b

theorem fieldStep_apply {s : Shape} (q : FVec Ideal s .f32) (b : BitVec 32) (w : IVec s 32) (j : s.Idx) :
    fieldStep q b w j = stepS (q j) b (w j) := by
  unfold fieldStep stepS
  exact select_dec (num (w j ||| b) ≤ q j) _ _

theorem field_apply {s : Shape} (q : FVec Ideal s .f32) (j : s.Idx) : field q j = fieldS (q j) := by
  unfold field fieldS
  rw [fieldStep_apply, fieldStep_apply, fieldStep_apply, fieldStep_apply, fieldStep_apply, fieldStep_apply, fieldStep_apply, fieldStep_apply]
  rfl

theorem num_one : num 0x3F800000#32 = 1 := Ideal.ofBits_one_f32

theorem scaleOf_apply {s : Shape} (q : FVec Ideal s .f32) (j : s.Idx) : scaleOf q j = scaleK (q j) := by
  unfold scaleOf scaleK
  rw [← field_apply, ← num_one]
  exact select_dec (q j < num 0x00800000#32) _ _

theorem invOf_apply {s : Shape} (q : FVec Ideal s .f32) (j : s.Idx) : invOf q j = invK (q j) := by
  unfold invOf invK
  rw [← field_apply, ← num_one]
  exact select_dec (q j < num 0x00800000#32) _ _

theorem clip8_apply (v : FVec Ideal S128x128 .f32) (j : S128x128.Idx) : clip8 v j = clipS (v j) := rfl

/-! ## Group maxima -/

theorem rowMax_apply (y : FVec Ideal S128x128 .f32) (p : Fin 128) : rowMax y (ix2 p 0) = amaxS fun j => y (ix2 p j) := by
  unfold rowMax amaxS
  rw [shapeCast_a_a1_apply]
  refine (Ideal.multiReduction_maximumf_single (absf y) _ _ _ rfl _).trans ?_
  refine congrArg (fun f => (Finset.univ : Finset (Fin 128)).fold max _ f) (funext fun j => ?_)
  have e : (reduces_S128x128_S128).lift (ix1 p) j = ix2 p j := by
    funext a; apply Fin.ext
    match a with
    | ⟨0, _⟩ => rfl
    | ⟨1, _⟩ => rfl
  show absf y ((reduces_S128x128_S128).lift (ix1 p) j) = _
  rw [e]; rfl

theorem colQ_apply (y : FVec Ideal S128x128 .f32) (j : Fin 128) : colQ y (ix2 0 j) = qS fun i => y (ix2 i j) := by
  unfold colQ qS
  rw [mulf_apply, shapeCast_a_1a_apply]
  refine congrArg (· * num 0x3B124925#32) ?_
  refine (Ideal.multiReduction_maximumf_single (absf y) _ _ _ rfl _).trans ?_
  unfold amaxS
  refine congrArg (fun f => (Finset.univ : Finset (Fin 128)).fold max _ f) (funext fun i => ?_)
  have e : (reduces_S128x128_S128_2).lift (ix1 j) i = ix2 i j := by
    funext a; apply Fin.ext
    match a with
    | ⟨0, _⟩ => rfl
    | ⟨1, _⟩ => rfl
  show absf y ((reduces_S128x128_S128_2).lift (ix1 j) i) = _
  rw [e]; rfl

/-! ## The rows' factors -/

theorem word_eq_iff (a b : Fin 128) : (BitVec.ofNat 32 a.val = BitVec.ofNat 32 b.val) ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

theorem rstdOf_apply (acc : FVec Ideal S128x128 .f32) (p c : Fin 128) :
    rstdOf acc (ix2 p c) = Ideal.rsqrt (Ideal.div (acc (ix2 p p)) (num 0x46600000#32) + num 0x358637BD#32) := by
  unfold rstdOf
  rw [broadcastTo_apply _ _ (ix2 p c) (ix2 p 0) (fun ax => by match ax with | ⟨0, _⟩ => rfl | ⟨1, _⟩ => rfl), shapeCast_self]
  have e : (shapeCast S128x1 (multiReduction .add [1] S128
        (select (cmpi .eq (iota .tc S128x128 32 [0] iota_S128x128_d0_w32) (iota .tc S128x128 32 [1] iota_S128x128_d1_w32)) acc
          (broadcast S128x128 (Scalar.ofBits (F := Ideal) .f32 0x00000000#32)))
        0x00000000#32 reduces_S128x128_S128 (.inl rfl) rfl) shapeCasts_S128_S128x1) (ix2 p 0) = acc (ix2 p p) := by
    rw [shapeCast_a_a1_apply]
    refine (Ideal.multiReduction_add_single _ _ _ _ rfl _).trans ?_
    have hl : ∀ j : Fin 128, (reduces_S128x128_S128).lift (ix1 p) j = ix2 p j := fun j => by
      funext a; apply Fin.ext
      match a with
      | ⟨0, _⟩ => rfl
      | ⟨1, _⟩ => rfl
    have hj : ∀ j : Fin 128, (select (cmpi .eq (iota .tc S128x128 32 [0] iota_S128x128_d0_w32) (iota .tc S128x128 32 [1] iota_S128x128_d1_w32)) acc
          (broadcast S128x128 (Scalar.ofBits (F := Ideal) .f32 0x00000000#32))) ((reduces_S128x128_S128).lift (ix1 p) j) = if p = j then acc (ix2 p j) else 0 := fun j => by
      rw [hl j, select_apply]
      have hc : cmpi .eq (iota .tc S128x128 32 [0] iota_S128x128_d0_w32) (iota .tc S128x128 32 [1] iota_S128x128_d1_w32) (ix2 p j) = BitVec.ofBool (decide (BitVec.ofNat 32 p.val = BitVec.ofNat 32 j.val)) := by
        show IntOp.cmpi .eq (iota .tc S128x128 32 [0] iota_S128x128_d0_w32 (ix2 p j)) (iota .tc S128x128 32 [1] iota_S128x128_d1_w32 (ix2 p j)) = _
        rw [iota_single_apply, iota_single_apply]; rfl
      rw [hc, select_dec]
      simp only [word_eq_iff]
      by_cases h : p = j
      · rw [if_pos h, if_pos h]
      · rw [if_neg h, if_neg h]; exact Ideal.ofBits_zero_f32
    refine (Finset.sum_congr rfl fun j _ => hj j).trans ?_
    exact (Finset.sum_ite_eq Finset.univ p fun j => acc (ix2 p j)).trans (if_pos (Finset.mem_univ _))
  show Ideal.rsqrt (Ideal.div (shapeCast _ _ _ _) _ + _) = _
  rw [e]; rfl

variable (H : Vec Ideal S128x14336 .bf16)

/-- Row `p` of the sums. -/
def hrow (p : Fin 128) : Fin 14336 → EReal := fun k => H (ix2 p k)

/-- The squares of row `p` by number. -/
def hsq (p : Fin 128) (k : ℕ) : EReal := if h : k < 14336 then hrow H p ⟨k, h⟩ * hrow H p ⟨k, h⟩ else 0

theorem chunk_apply (n : ℕ) (hn : n < 7) (p : Fin 128) (k : Fin 2048) :
    chunk H n (ix2 p k) = hrow H p ⟨2048 * n + k.val, by omega⟩ := by
  unfold chunk hrow
  refine congrArg H (funext fun a => Fin.ext ?_)
  match a with
  | ⟨0, _⟩ => show 0 + 1 * p.val = p.val; omega
  | ⟨1, _⟩ => show 2048 * (n % 7) + 1 * k.val = 2048 * n + k.val; rw [Nat.mod_eq_of_lt hn]; omega

theorem gramT_diag (p : Fin 128) : ∀ n ≤ 7, gramT H n (ix2 p p) = ∑ k ∈ Finset.range (2048 * n), hsq H p k
  | 0, _ => by rw [Nat.mul_zero, Finset.sum_range_zero]; exact Ideal.ofBits_zero_f32
  | n + 1, h => by
    have ih := gramT_diag p n (by omega)
    rw [Nat.mul_succ, Finset.sum_range_add, ← ih]
    show gramStep (gramT H n) (chunk H n) (ix2 p p) = _
    unfold gramStep
    rw [addf_apply]
    refine congrArg (gramT H n (ix2 p p) + ·) ?_
    refine (Ideal.matmul_transposedRhs_apply (M := 128) (K := 2048) (N := 128) none (chunk H n) (chunk H n) (constant S128x128 .f32 0x00000000#32) p p).trans ?_
    rw [show (constant S128x128 .f32 0x00000000#32 : FVec Ideal S128x128 .f32) (ix2 p p) = 0 from Ideal.ofBits_zero_f32, zero_add,
      Finset.sum_range]
    refine Finset.sum_congr rfl fun k _ => ?_
    unfold hsq
    rw [dif_pos (by omega), chunk_apply H n (by omega)]

theorem rstdT_apply (p c : Fin 128) : rstdT H (ix2 p c) = rstdS (hrow H p) := by
  unfold rstdT rstdS
  rw [rstdOf_apply, gramT_diag H p 7 le_rfl]
  rw [show (∑ k ∈ Finset.range (2048 * 7), hsq H p k) = ∑ k, hrow H p k * hrow H p k from by
    rw [show 2048 * 7 = 14336 from rfl, Finset.sum_range]
    exact Finset.sum_congr rfl fun k _ => dif_pos k.isLt]

variable (G : Vec Ideal S1x14336 .f32)

/-- The weights. -/
def gam (k : Fin 14336) : EReal := G (ix2 0 k)

/-- Row `p`'s normalised value at column `k`. -/
def yv (p : Fin 128) (k : Fin 14336) : EReal := yS (hrow H p) k (gam G k)

theorem yBlk_apply (q : ℕ) (hq : q < 112) (p j : Fin 128) :
    yBlk H (rstdT H) G q (ix2 p j) = yv H G p ⟨128 * q + j.val, by omega⟩ := by
  have hb : (blk q).val = q := Nat.mod_eq_of_lt hq
  unfold yBlk normBlock
  rw [mulf_apply, mulf_apply, broadcastTo_1b_ab_apply, shapeCast_self, shapeCast_self, rstdT_apply]
  unfold yv yS
  have e1 : VecWindow.window H ![0, 128 * (blk q).val] S128x128.size (inb_cols (blk q)) (ix2 p j) = hrow H p ⟨128 * q + j.val, by omega⟩ := by
    unfold hrow
    refine congrArg H (funext fun a => Fin.ext ?_)
    match a with
    | ⟨0, _⟩ => show 0 + 1 * p.val = p.val; omega
    | ⟨1, _⟩ => show 128 * (blk q).val + 1 * j.val = 128 * q + j.val; omega
  have e2 : VecWindow.window G ![0, 128 * (blk q).val] S1x128.size (inb_gam (blk q)) (ix2 0 j) = gam G ⟨128 * q + j.val, by omega⟩ := by
    unfold gam
    refine congrArg G (funext fun a => Fin.ext ?_)
    match a with
    | ⟨0, _⟩ => show 0 + 1 * 0 = 0; omega
    | ⟨1, _⟩ => show 128 * (blk q).val + 1 * j.val = 128 * q + j.val; omega
  exact congrArg₂ (· * ·) (congrArg (· * rstdS (hrow H p)) e1) e2

end Cert.KernelIdeal.Hand

end

end
-- ==== Proof.KCode.lean ====
/- The kernel's codes and scales at `Ideal`, an element at a time: each group's own factor. -/
module

public import proofs.«01_k».proof.Proof.KVal

@[expose] public section

set_option maxRecDepth 16384

noncomputable section

namespace Cert.KernelIdeal.Hand

open Idealize.ShloMosaic Idealize.SL.Sem Idealize.ShloMosaic.ValueIdx
open Facts₀ Facts
open Cert.Hand
open scoped BigOperators

/-! ## The spreading matrix -/

/-- A column's group as the kernel computes it: a quotient rounded down. -/
def grpW (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32) (IntOp.divsi .vector w 128#32)

theorem grpW_eq : ∀ n < 2048, grpW (BitVec.ofNat 32 n) = BitVec.ofNat 32 (n / 128) := by decide +kernel

theorem word_inj (a b : ℕ) (ha : a < 2048) (hb : b < 2048) : BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

theorem expand_apply (k : Fin 128) (c : Fin 2048) : (expand : FVec Ideal S128x2048 .bf16) (ix2 k c) = if k.val = c.val / 128 then 1 else 0 := by
  have h1 : (expand : FVec Ideal S128x2048 .bf16) (ix2 k c)
      = Scalar.select (IntOp.cmpi .eq (iota .tc S128x2048 32 [0] iota_S128x2048_d0_w32 (ix2 k c)) (grpW (iota .tc S128x2048 32 [1] iota_S128x2048_d1_w32 (ix2 k c))))
        (num 0x3F800000#32) (num 0#32) := rfl
  rw [h1, iota_single_apply, iota_single_apply]
  have h2 : grpW (BitVec.ofNat 32 ((ix2 k c : S128x2048.Idx) 1).val) = BitVec.ofNat 32 (c.val / 128) := grpW_eq c.val c.isLt
  rw [h2]
  have h3 := select_dec (BitVec.ofNat 32 k.val = BitVec.ofNat 32 (c.val / 128)) (num 0x3F800000#32) (num 0#32)
  refine h3.trans ?_
  simp only [word_inj k.val (c.val / 128) (by omega) (by omega)]
  rw [num_one, show num 0#32 = 0 from Ideal.ofBits_zero_f32]

/-- The spread inverses read each group's own. -/
theorem rowInv_apply (a : Vec Ideal S128x128 .f32) (p : Fin 128) (c : Fin 2048) :
    rowInv a (expand (F := Ideal)) (ix2 p c) = invK (a (ix2 p ⟨c.val / 128, by omega⟩) * num 0x3B124925#32) := by
  unfold rowInv
  refine (Ideal.matmul_plain_apply (M := 128) (K := 128) (N := 2048) none (truncf .bf16 (invOf (rowQ a)) bitsLt_bf16_f32) expand (constant S128x2048 .f32 0x00000000#32) p c).trans ?_
  rw [show (constant S128x2048 .f32 0x00000000#32 : FVec Ideal S128x2048 .f32) (ix2 p c) = 0 from Ideal.ofBits_zero_f32, zero_add]
  refine (Finset.sum_congr rfl fun k _ => ?_).trans
    ((Finset.sum_ite_eq' Finset.univ (⟨c.val / 128, by omega⟩ : Fin 128) fun k => invK (a (ix2 p k) * num 0x3B124925#32)).trans (if_pos (Finset.mem_univ _)))
  rw [expand_apply, truncf_apply, invOf_apply]
  show invK (a (ix2 p k) * num 0x3B124925#32) * _ = _
  by_cases h : k.val = c.val / 128
  · rw [if_pos h, if_pos (Fin.ext h), mul_one]
  · rw [if_neg h, if_neg (fun e => h (congrArg Fin.val e)), mul_zero]

/-! ## The targets -/

variable (H : Vec Ideal S128x14336 .bf16) (G : Vec Ideal S1x14336 .f32)

/-- Group `g` of row `p`'s values. -/
def rv (p : Fin 128) (g : ℕ) (hg : g < 112) : Fin 128 → EReal := fun j => yv H G p ⟨128 * g + j.val, by omega⟩

/-- Column `k`'s values. -/
def cv (k : Fin 14336) : Fin 128 → EReal := fun i => yv H G i k

theorem aT_apply (k : ℕ) (hk : k < 7) (p : Fin 128) (g : Fin 128) (hg : g.val < 16) :
    aT H (rstdT H) G k (ix2 p g) = amaxS (rv H G p (16 * k + g.val) (by omega)) := by
  have h1 : aT H (rstdT H) G k (ix2 p g) = rowMax (yBlk H (rstdT H) G (16 * k + g.val)) (ix2 p 0) := if_pos hg
  rw [h1, rowMax_apply]
  exact congrArg amaxS (funext fun j => yBlk_apply H G _ (by omega) p j)

theorem colScaleArg (q : ℕ) (hq : q < 112) (j : Fin 128) :
    colQ (yBlk H (rstdT H) G q) (ix2 0 j) = qS (cv H G ⟨128 * q + j.val, by omega⟩) := by
  rw [colQ_apply]
  exact congrArg qS (funext fun i => yBlk_apply H G q hq i j)

theorem c5B_apply (q : ℕ) (hq : q < 112) (p j : Fin 128) :
    c5B H (rstdT H) G q (ix2 p j) = clipS (yv H G p ⟨128 * q + j.val, by omega⟩ * invK (qS (rv H G p q hq))) := by
  unfold c5B rowCodes
  rw [clip8_apply, mulf_apply, yBlk_apply H G q hq]
  refine congrArg (fun v => clipS (yv H G p ⟨128 * q + j.val, by omega⟩ * v)) ?_
  have hg : (grp q).val = q % 16 := rfl
  have e : (VecWindow.window (invT H (rstdT H) G (q / 16)) ![0, 128 * (grp q).val] S128x128.size (inb_y (grp q))) (ix2 p j)
      = invT H (rstdT H) G (q / 16) (ix2 p ⟨128 * (q % 16) + j.val, by omega⟩) := by
    refine congrArg (invT H (rstdT H) G (q / 16)) (funext fun a => Fin.ext ?_)
    match a with
    | ⟨0, _⟩ => show 0 + 1 * p.val = p.val; omega
    | ⟨1, _⟩ => show 128 * (q % 16) + 1 * j.val = 128 * (q % 16) + j.val; omega
  refine e.trans ?_
  unfold invT
  rw [rowInv_apply]
  have e2 : (⟨(128 * (q % 16) + j.val) / 128, by omega⟩ : Fin 128) = ⟨q % 16, by omega⟩ := Fin.ext (by show (128 * (q % 16) + j.val) / 128 = q % 16; omega)
  rw [show (⟨(⟨128 * (q % 16) + j.val, by omega⟩ : Fin 2048).val / 128, by show (128 * (q % 16) + j.val) / 128 < 128; omega⟩ : Fin 128) = ⟨q % 16, by omega⟩ from e2,
    aT_apply H G (q / 16) (by omega) p ⟨q % 16, by omega⟩ (by show q % 16 < 16; omega)]
  unfold qS
  refine congrArg (fun v => invK (amaxS v * num 0x3B124925#32)) (funext fun i => congrArg (yv H G p) (Fin.ext ?_))
  show 128 * (16 * (q / 16) + q % 16) + i.val = 128 * q + i.val
  omega

theorem c5T_apply (p : Fin 128) (k : Fin 14336) :
    c5T H (rstdT H) G (ix2 p k) = clipS (yv H G p k * invK (qS (rv H G p (k.val / 128) (by omega)))) := by
  show c5B H (rstdT H) G (k.val / 128) (ix2 p ⟨k.val % 128, _⟩) = _
  rw [c5B_apply H G (k.val / 128) (by omega)]
  refine congrArg (fun z => clipS (yv H G p z * _)) (Fin.ext ?_)
  show 128 * (k.val / 128) + k.val % 128 = k.val
  omega

theorem rsT_apply (g : Fin 112) (p : Fin 128) :
    rsT H (rstdT H) G (ix2 g p) = scaleK (qS (rv H G p g.val g.isLt)) := by
  show rowScales (aT H (rstdT H) G (g.val / 16)) (ix2 ⟨g.val % 16, _⟩ p) = _
  unfold rowScales
  rw [slice2_axis0_apply 0 _ _ _ _ (⟨g.val % 16, by omega⟩ : Fin 128) (by show g.val % 16 = 0 + g.val % 16; omega), transpose_ix2_apply, scaleOf_apply]
  show scaleK (aT H (rstdT H) G (g.val / 16) (ix2 p ⟨g.val % 16, _⟩) * num 0x3B124925#32) = _
  rw [aT_apply H G (g.val / 16) (by omega) p ⟨g.val % 16, by omega⟩ (by show g.val % 16 < 16; omega)]
  unfold qS
  refine congrArg (fun v => scaleK (amaxS v * num 0x3B124925#32)) (funext fun i => congrArg (yv H G p) (Fin.ext ?_))
  show 128 * (16 * (g.val / 16) + g.val % 16) + i.val = 128 * g.val + i.val
  omega

theorem c7B_apply (q : ℕ) (hq : q < 112) (j p : Fin 128) :
    c7B H (rstdT H) G q (ix2 j p) = clipS (yv H G p ⟨128 * q + j.val, by omega⟩ * invK (qS (cv H G ⟨128 * q + j.val, by omega⟩))) := by
  unfold c7B colCodes
  rw [transpose_ix2_apply, clip8_apply, mulf_apply, yBlk_apply H G q hq, broadcastTo_1b_ab_apply, invOf_apply, colScaleArg H G q hq]

theorem c7T_apply (k : Fin 14336) (p : Fin 128) :
    c7T H (rstdT H) G (ix2 k p) = clipS (yv H G p k * invK (qS (cv H G k))) := by
  show c7B H (rstdT H) G (k.val / 128) (ix2 ⟨k.val % 128, _⟩ p) = _
  rw [c7B_apply H G (k.val / 128) (by omega)]
  refine congrArg (fun z => clipS (yv H G p z * invK (qS (cv H G z)))) (Fin.ext ?_)
  show 128 * (k.val / 128) + k.val % 128 = k.val
  omega

theorem colScale_apply (q : ℕ) (hq : q < 112) (j : Fin 128) :
    scaleOf (colQ (yBlk H (rstdT H) G q)) (ix2 0 j) = scaleK (qS (cv H G ⟨128 * q + j.val, by omega⟩)) := by
  rw [scaleOf_apply, colScaleArg H G q hq]

end Cert.KernelIdeal.Hand

end

end
-- ==== Proof.KArr.lean ====
/- The idealised kernel's arrays after the run, an element at a time: every block is the block of one function of the rows. -/
module

public import proofs.«01_k».proof.Proof.Spec
public import proofs.«01_k».proof.Proof.Run
public import proofs.«01_k».proof.Proof.KCode
public import Idealize.ShloMosaic.Lib.ValueIdx
public import Idealize.ShloMosaic.Lib.ValueLayout
public import Idealize.ShloMosaic.Lib.Pipeline.ValueKit.Geometry

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx
open Cert.Hand

variable (m : (ℓ : Loc nD τ sig) → Buf (Elt Ideal) ℓ) (ρ : Dev nD → PrngReg)

/-! ## Where the blocks lie -/

theorem index_row0 : ∀ t : Fin cfg0.N, win0_0.index t = ![t.val, 0] := (by decide +kernel : ∀ t : Fin grid0.N, win0_0.index t = ![t.val, 0])
theorem index_row1 : ∀ t : Fin cfg0.N, win0_1.index t = ![t.val, 0] := (by decide +kernel : ∀ t : Fin grid0.N, win0_1.index t = ![t.val, 0])
theorem index_gam : ∀ t : Fin cfg0.N, win0_2.index t = ![0, 0] := (by decide +kernel : ∀ t : Fin grid0.N, win0_2.index t = ![0, 0])
theorem index_row3 : ∀ t : Fin cfg0.N, win0_3.index t = ![t.val, 0] := (by decide +kernel : ∀ t : Fin grid0.N, win0_3.index t = ![t.val, 0])
theorem index_row4 : ∀ t : Fin cfg0.N, win0_4.index t = ![t.val, 0] := (by decide +kernel : ∀ t : Fin grid0.N, win0_4.index t = ![t.val, 0])
theorem index_col5 : ∀ t : Fin cfg0.N, win0_5.index t = ![0, t.val] := (by decide +kernel : ∀ t : Fin grid0.N, win0_5.index t = ![0, t.val])
theorem index_col6 : ∀ t : Fin cfg0.N, win0_6.index t = ![0, t.val] := (by decide +kernel : ∀ t : Fin grid0.N, win0_6.index t = ![0, t.val])
theorem index_7 : ∀ t : Fin cfg0.N, win0_7.index t = ![0, 0] := (by decide +kernel : ∀ t : Fin grid0.N, win0_7.index t = ![0, 0])

/-! ## The rows and the weights -/

/-- The sums' row `n`. -/
def Hm (c : Dev nD) (n : Fin 1536) : Fin 14336 → EReal := fun k => Hb m c (pt (n.val / 128)) (ix2 (⟨n.val % 128, Nat.mod_lt _ (by decide)⟩ : Fin 128) k)

/-- The weights. -/
def Gm (c : Dev nD) : Fin 14336 → EReal := fun k => m ((c : Thread nD τ).loc main_arg2) (ix1 k)

theorem t_lt (t : Fin cfg0.N) : t.val < 12 := N_0 ▸ t.isLt

/-- Row `p` of block `t`. -/
def rowOf (t : Fin cfg0.N) (p : Fin 128) : Fin 1536 := ⟨128 * t.val + p.val, by have := t_lt t; omega⟩

theorem hrow_eq (c : Dev nD) (t : Fin cfg0.N) (p : Fin 128) : hrow (Hb m c t) p = Hm m c (rowOf t p) := by
  have ht := t_lt t
  funext k
  have e1 : pt ((rowOf t p).val / 128) = t := Fin.ext (by
    show (128 * t.val + p.val) / 128 % 12 = t.val
    omega)
  have e2 : (⟨(rowOf t p).val % 128, Nat.mod_lt _ (by decide)⟩ : Fin 128) = p := Fin.ext (by
    show (128 * t.val + p.val) % 128 = p.val
    omega)
  unfold Hm hrow
  rw [e1, e2]

theorem V_main_v2 (c : Dev nD) : V m c main_v2 = shapeCast S1x14336 (m ((c : Thread nD τ).loc main_arg2) : Vec Ideal S14336 .f32) shapeCasts_S14336_S1x14336 := by
  unfold V V0
  simp only [List.flatten_cons, List.flatten_nil, List.append_nil, List.cons_append, List.nil_append]
  after_results_simp
  rfl

theorem gam_eq (c : Dev nD) (t : Fin cfg0.N) : gam (iblk m c 2 t) = Gm m c := by
  funext k
  have e : ((cfg0.win 2).blk t).view.emb (ix2 (0 : Fin 1) k : S1x14336.Idx) = (ix2 (0 : Fin 1) k : S1x14336.Idx) := by
    blk_ext [index_gam]
  unfold gam Gm
  show V m c main_v2 (((cfg0.win 2).blk t).view.emb (ix2 (0 : Fin 1) k : S1x14336.Idx)) = _
  rw [e, V_main_v2]
  exact shapeCast_a_1a_apply _ _ _ _

theorem yv_eq (c : Dev nD) (t : Fin cfg0.N) (p : Fin 128) (k : Fin 14336) :
    yv (Hb m c t) (iblk m c 2 t) p k = Y (Hm m c) (Gm m c) (rowOf t p) k := by
  unfold yv Y
  rw [hrow_eq, gam_eq]

/-! ## The groups -/

theorem rv_eq (c : Dev nD) (t : Fin cfg0.N) (p : Fin 128) (g : ℕ) (hg : g < 112) :
    rv (Hb m c t) (iblk m c 2 t) p g hg = rowG (Hm m c) (Gm m c) (rowOf t p) ⟨g, hg⟩ :=
  funext fun j => yv_eq m c t p _

theorem cv_eq (c : Dev nD) (t : Fin cfg0.N) (k : Fin 14336) :
    cv (Hb m c t) (iblk m c 2 t) k = colG (Hm m c) (Gm m c) ⟨t.val, t_lt t⟩ k :=
  funext fun i => yv_eq m c t i k

section Bounded

variable (H : Fin 1536 → Fin 14336 → EReal) (G : Fin 14336 → EReal) (hG : ∀ k, GammaOk (G k))
include hG

theorem row_lt (n : Fin 1536) (g : Fin 112) : qS (rowG H G n g) < (((2 : ℝ) ^ (126 : ℤ) : ℝ) : EReal) := qS_lt _ fun j => Y_bound H G hG n _
theorem col_lt (b : Fin 12) (k : Fin 14336) : qS (colG H G b k) < (((2 : ℝ) ^ (126 : ℤ) : ℝ) : EReal) := qS_lt _ fun i => Y_bound H G hG _ k

end Bounded

/-! ## The blocks -/

section Blocks

variable (c : Dev nD) (hG : ∀ k, GammaOk (Gm m c k)) (t : Fin cfg0.N)

theorem blk3 (p : Fin 128) (k : Fin 14336) : Hb m c t (ix2 p k) = Hm m c (rowOf t p) k := congrFun (hrow_eq m c t p) k

include hG

theorem blk4 (p : Fin 128) (k : Fin 14336) :
    c5T (Hb m c t) (rstdT (Hb m c t)) (iblk m c 2 t) (ix2 p k) = codeRow (Hm m c) (Gm m c) (rowOf t p) k := by
  rw [c5T_apply, yv_eq, rv_eq, invK_eq (row_lt _ _ hG _ _)]
  rfl

theorem blk5 (g : Fin 112) (p : Fin 128) :
    rsT (Hb m c t) (rstdT (Hb m c t)) (iblk m c 2 t) (ix2 g p) = scaleRow (Hm m c) (Gm m c) (rowOf t p) g := by
  rw [rsT_apply, rv_eq, scaleK_eq (row_lt _ _ hG _ _)]
  rfl

theorem blk6 (k : Fin 14336) (p : Fin 128) :
    c7T (Hb m c t) (rstdT (Hb m c t)) (iblk m c 2 t) (ix2 k p) = codeCol (Hm m c) (Gm m c) k (rowOf t p) := by
  have ht := t_lt t
  rw [c7T_apply, yv_eq, cv_eq, invK_eq (col_lt _ _ hG _ _)]
  unfold codeCol codeS
  refine congrArg (fun b => clipS (_ * Ideal.div 1 (scaleR (qS (colG (Hm m c) (Gm m c) b k))))) (Fin.ext ?_)
  show t.val = (128 * t.val + p.val) / 128
  omega

omit t in
theorem blk7 (b : Fin 12) (k : Fin 14336) : c8T (csdT m c) (ix2 b k) = scaleCol (Hm m c) (Gm m c) k b := by
  have hk := k.isLt
  have hb : (pt b.val).val = b.val := Nat.mod_eq_of_lt b.isLt
  have e : c8T (csdT m c) (ix2 b k)
      = scaleOf (colQ (yBlk (Hb m c (pt b.val)) (rstdT (Hb m c (pt b.val))) (iblk m c 2 (pt b.val)) (k.val / 128))) (ix2 0 (⟨k.val % 128, Nat.mod_lt _ (by decide)⟩ : Fin 128)) := rfl
  rw [e, colScale_apply _ _ (k.val / 128) (by omega), cv_eq, scaleK_eq (col_lt _ _ hG _ _)]
  unfold scaleCol
  have e1 : (⟨(pt b.val).val, t_lt _⟩ : Fin 12) = b := Fin.ext hb
  rw [e1]
  refine congrArg (fun z => scaleR (qS (colG (Hm m c) (Gm m c) b z))) (Fin.ext ?_)
  show 128 * (k.val / 128) + k.val % 128 = k.val
  omega

end Blocks

/-! ## The arrays -/

/-- The sums, -/
def G3 (c : Dev nD) : Vec Ideal S1536x14336 .bf16 := fun i => Hm m c ⟨(i 0).val, (i 0).isLt⟩ ⟨(i 1).val, (i 1).isLt⟩
/-- the row codes, -/
def G4 (c : Dev nD) : Vec Ideal S1536x14336 .fp8e4m3 := fun i => codeRow (Hm m c) (Gm m c) ⟨(i 0).val, (i 0).isLt⟩ ⟨(i 1).val, (i 1).isLt⟩
/-- the row scales, transposed, -/
def G5 (c : Dev nD) : Vec Ideal S112x1536 .f32 := fun i => scaleRow (Hm m c) (Gm m c) ⟨(i 1).val, (i 1).isLt⟩ ⟨(i 0).val, (i 0).isLt⟩
/-- the column codes, -/
def G6 (c : Dev nD) : Vec Ideal S14336x1536 .fp8e4m3 := fun i => codeCol (Hm m c) (Gm m c) ⟨(i 0).val, (i 0).isLt⟩ ⟨(i 1).val, (i 1).isLt⟩
/-- the column scales, transposed. -/
def G7 (c : Dev nD) : Vec Ideal S12x14336 .f32 := fun i => scaleCol (Hm m c) (Gm m c) ⟨(i 1).val, (i 1).isLt⟩ ⟨(i 0).val, (i 0).isLt⟩

theorem emb3 (t : Fin cfg0.N) (p : Fin 128) (k : Fin 14336) :
    ((cfg0.win 3).blk t).view.emb (ix2 p k : S128x14336.Idx) = (ix2 (rowOf t p) k : S1536x14336.Idx) := by
  funext a; apply Fin.ext
  match a with
  | ⟨0, _⟩ => show win0_3.index t (0 : Fin 2) * 128 + 1 * p.val = 128 * t.val + p.val; rw [index_row3]; show t.val * 128 + 1 * p.val = _; omega
  | ⟨1, _⟩ => show win0_3.index t (1 : Fin 2) * 14336 + 1 * k.val = k.val; rw [index_row3]; show 0 * 14336 + 1 * k.val = _; omega

theorem emb4 (t : Fin cfg0.N) (p : Fin 128) (k : Fin 14336) :
    ((cfg0.win 4).blk t).view.emb (ix2 p k : S128x14336.Idx) = (ix2 (rowOf t p) k : S1536x14336.Idx) := by
  funext a; apply Fin.ext
  match a with
  | ⟨0, _⟩ => show win0_4.index t (0 : Fin 2) * 128 + 1 * p.val = 128 * t.val + p.val; rw [index_row4]; show t.val * 128 + 1 * p.val = _; omega
  | ⟨1, _⟩ => show win0_4.index t (1 : Fin 2) * 14336 + 1 * k.val = k.val; rw [index_row4]; show 0 * 14336 + 1 * k.val = _; omega

theorem emb5 (t : Fin cfg0.N) (g : Fin 112) (p : Fin 128) :
    ((cfg0.win 5).blk t).view.emb (ix2 g p : S112x128.Idx) = (ix2 g (rowOf t p) : S112x1536.Idx) := by
  funext a; apply Fin.ext
  match a with
  | ⟨0, _⟩ => show win0_5.index t (0 : Fin 2) * 112 + 1 * g.val = g.val; rw [index_col5]; show 0 * 112 + 1 * g.val = _; omega
  | ⟨1, _⟩ => show win0_5.index t (1 : Fin 2) * 128 + 1 * p.val = 128 * t.val + p.val; rw [index_col5]; show t.val * 128 + 1 * p.val = _; omega

theorem emb6 (t : Fin cfg0.N) (k : Fin 14336) (p : Fin 128) :
    ((cfg0.win 6).blk t).view.emb (ix2 k p : S14336x128.Idx) = (ix2 k (rowOf t p) : S14336x1536.Idx) := by
  funext a; apply Fin.ext
  match a with
  | ⟨0, _⟩ => show win0_6.index t (0 : Fin 2) * 14336 + 1 * k.val = k.val; rw [index_col6]; show 0 * 14336 + 1 * k.val = _; omega
  | ⟨1, _⟩ => show win0_6.index t (1 : Fin 2) * 128 + 1 * p.val = 128 * t.val + p.val; rw [index_col6]; show t.val * 128 + 1 * p.val = _; omega

theorem emb7 (t : Fin cfg0.N) (b : Fin 12) (k : Fin 14336) :
    ((cfg0.win 7).blk t).view.emb (ix2 b k : S12x14336.Idx) = (ix2 b k : S12x14336.Idx) := by
  funext a; apply Fin.ext
  match a with
  | ⟨0, _⟩ => show win0_7.index t (0 : Fin 2) * 12 + 1 * b.val = b.val; rw [index_7]; show 0 * 12 + 1 * b.val = _; omega
  | ⟨1, _⟩ => show win0_7.index t (1 : Fin 2) * 14336 + 1 * k.val = k.val; rw [index_7]; show 0 * 14336 + 1 * k.val = _; omega

theorem arr3 (c : Dev nD) : (dats m 0 c).arrAt 3 cfg0.N = G3 m c := by
  refine (dats m 0 c).arrAt_eq_of_covers 3 _ (by decide +kernel) fun t hf y => ?_
  obtain ⟨p, k, rfl⟩ : ∃ (p : Fin 128) (k : Fin 14336), y = ix2 p k := ⟨_, _, eq_ix2 y⟩
  rw [emb3]
  show (dats m 0 c).after 3 t (ix2 p k : S128x14336.Idx) = Hm m c (rowOf t p) k
  rw [after0_3]; exact blk3 m c t p k

section

variable (c : Dev nD) (hG : ∀ k, GammaOk (Gm m c k))
include hG

theorem arr4 : (dats m 0 c).arrAt 4 cfg0.N = G4 m c := by
  refine (dats m 0 c).arrAt_eq_of_covers 4 _ (by decide +kernel) fun t hf y => ?_
  obtain ⟨p, k, rfl⟩ : ∃ (p : Fin 128) (k : Fin 14336), y = ix2 p k := ⟨_, _, eq_ix2 y⟩
  rw [emb4]
  show (dats m 0 c).after 4 t (ix2 p k : S128x14336.Idx) = codeRow (Hm m c) (Gm m c) (rowOf t p) k
  rw [after0_4]; exact blk4 m c hG t p k

theorem arr5 : (dats m 0 c).arrAt 5 cfg0.N = G5 m c := by
  refine (dats m 0 c).arrAt_eq_of_covers 5 _ (by decide +kernel) fun t hf y => ?_
  obtain ⟨g, p, rfl⟩ : ∃ (g : Fin 112) (p : Fin 128), y = ix2 g p := ⟨_, _, eq_ix2 y⟩
  rw [emb5]
  show (dats m 0 c).after 5 t (ix2 g p : S112x128.Idx) = scaleRow (Hm m c) (Gm m c) (rowOf t p) g
  rw [after0_5]; exact blk5 m c hG t g p

theorem arr6 : (dats m 0 c).arrAt 6 cfg0.N = G6 m c := by
  refine (dats m 0 c).arrAt_eq_of_covers 6 _ (by decide +kernel) fun t hf y => ?_
  obtain ⟨k, p, rfl⟩ : ∃ (k : Fin 14336) (p : Fin 128), y = ix2 k p := ⟨_, _, eq_ix2 y⟩
  rw [emb6]
  show (dats m 0 c).after 6 t (ix2 k p : S14336x128.Idx) = codeCol (Hm m c) (Gm m c) k (rowOf t p)
  rw [after0_6]; exact blk6 m c hG t k p

theorem arr7 : (dats m 0 c).arrAt 7 cfg0.N = G7 m c := by
  refine (dats m 0 c).arrAt_eq_of_covers 7 _ (by decide +kernel) fun t hf y => ?_
  obtain ⟨b, k, rfl⟩ : ∃ (b : Fin 12) (k : Fin 14336), y = ix2 b k := ⟨_, _, eq_ix2 y⟩
  rw [emb7]
  show (dats m 0 c).after 7 t (ix2 b k : S12x14336.Idx) = scaleCol (Hm m c) (Gm m c) k b
  rw [after0_7]; exact blk7 m c hG b k

end

/-! ## After the two transposes -/

theorem W_main_v4 (c : Dev nD) : Pipeline.afterTail₀ cfgs (dats m) 0 (V0 m) [hostOps1] c main_v4
    = transpose S1536x112 [1, 0] ((dats m 0 c).arrAt 5 cfg0.N : Vec Ideal S112x1536 .f32) transposes_S112x1536_S1536x112_1_0 := by
  unfold Pipeline.afterTail₀
  simp only [List.flatten_cons, List.flatten_nil, List.append_nil, List.cons_append, List.nil_append]
  after_results_simp
  exact congrArg (fun z => transpose S1536x112 [1, 0] z transposes_S112x1536_S1536x112_1_0)
    (Pipeline.withArrays_arr spec0 winFacts0.arr_inj c (V0 m c) (fun w => (dats m 0 c).arrAt w cfg0.N) 5)

theorem W_main_v5 (c : Dev nD) : Pipeline.afterTail₀ cfgs (dats m) 0 (V0 m) [hostOps1] c main_v5
    = transpose S14336x12 [1, 0] ((dats m 0 c).arrAt 7 cfg0.N : Vec Ideal S12x14336 .f32) transposes_S12x14336_S14336x12_1_0 := by
  unfold Pipeline.afterTail₀
  simp only [List.flatten_cons, List.flatten_nil, List.append_nil, List.cons_append, List.nil_append]
  after_results_simp
  exact congrArg (fun z => transpose S14336x12 [1, 0] z transposes_S12x14336_S14336x12_1_0)
    (Pipeline.withArrays_arr spec0 winFacts0.arr_inj c (V0 m c) (fun w => (dats m 0 c).arrAt w cfg0.N) 7)

end Cert.KernelIdeal.Hand

end

end
-- ==== Proof.KOut.lean ====
/- The idealised kernel's run with its five results named. -/
module

public import proofs.«01_k».proof.Proof.KArr

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Hand

variable (m : (ℓ : Loc nD τ sig) → Buf (Elt Ideal) ℓ) (ρ : Dev nD → PrngReg)

/-- The row scales, -/
def O5 (c : Dev nD) : Vec Ideal S1536x112 .f32 := fun i => scaleRow (Hm m c) (Gm m c) ⟨(i 0).val, (i 0).isLt⟩ ⟨(i 1).val, (i 1).isLt⟩
/-- the column scales. -/
def O7 (c : Dev nD) : Vec Ideal S14336x12 .f32 := fun i => scaleCol (Hm m c) (Gm m c) ⟨(i 0).val, (i 0).isLt⟩ ⟨(i 1).val, (i 1).isLt⟩

theorem tr5 (c : Dev nD) : transpose S1536x112 [1, 0] (G5 m c) transposes_S112x1536_S1536x112_1_0 = O5 m c := by
  funext i
  obtain ⟨n, g, rfl⟩ : ∃ (n : Fin 1536) (g : Fin 112), i = ix2 n g := ⟨_, _, eq_ix2 i⟩
  exact transpose_ix2_apply _ _ _ _

theorem tr7 (c : Dev nD) : transpose S14336x12 [1, 0] (G7 m c) transposes_S12x14336_S14336x12_1_0 = O7 m c := by
  funext i
  obtain ⟨n, g, rfl⟩ : ∃ (n : Fin 14336) (g : Fin 12), i = ix2 n g := ⟨_, _, eq_ix2 i⟩
  exact transpose_ix2_apply _ _ _ _

theorem V_main_v0 (c : Dev nD) : V m c main_v0 = shapeCast S1536x14336 (m ((c : Thread nD τ).loc main_arg0) : Vec Ideal S2x768x14336 .bf16) shapeCasts_S2x768x14336_S1536x14336 := by
  unfold V V0
  simp only [List.flatten_cons, List.flatten_nil, List.append_nil, List.cons_append, List.nil_append]
  after_results_simp
  rfl

theorem V_main_v1 (c : Dev nD) : V m c main_v1 = shapeCast S1536x14336 (m ((c : Thread nD τ).loc main_arg1) : Vec Ideal S2x768x14336 .bf16) shapeCasts_S2x768x14336_S1536x14336 := by
  unfold V V0
  simp only [List.flatten_cons, List.flatten_nil, List.append_nil, List.cons_append, List.nil_append]
  after_results_simp
  rfl

theorem emb0 (t : Fin cfg0.N) (p : Fin 128) (k : Fin 14336) :
    ((cfg0.win 0).blk t).view.emb (ix2 p k : S128x14336.Idx) = (ix2 (rowOf t p) k : S1536x14336.Idx) := by
  funext a; apply Fin.ext
  match a with
  | ⟨0, _⟩ => show win0_0.index t (0 : Fin 2) * 128 + 1 * p.val = 128 * t.val + p.val; rw [index_row0]; show t.val * 128 + 1 * p.val = _; omega
  | ⟨1, _⟩ => show win0_0.index t (1 : Fin 2) * 14336 + 1 * k.val = k.val; rw [index_row0]; show 0 * 14336 + 1 * k.val = _; omega

theorem emb1 (t : Fin cfg0.N) (p : Fin 128) (k : Fin 14336) :
    ((cfg0.win 1).blk t).view.emb (ix2 p k : S128x14336.Idx) = (ix2 (rowOf t p) k : S1536x14336.Idx) := by
  funext a; apply Fin.ext
  match a with
  | ⟨0, _⟩ => show win0_1.index t (0 : Fin 2) * 128 + 1 * p.val = 128 * t.val + p.val; rw [index_row1]; show t.val * 128 + 1 * p.val = _; omega
  | ⟨1, _⟩ => show win0_1.index t (1 : Fin 2) * 14336 + 1 * k.val = k.val; rw [index_row1]; show 0 * 14336 + 1 * k.val = _; omega

/-- An argument's element at row `n` of the flattened rows. -/
def rowsAt (x : Vec Ideal S2x768x14336 .bf16) (n : Fin 1536) (k : Fin 14336) : EReal :=
  shapeCast S1536x14336 x shapeCasts_S2x768x14336_S1536x14336 (ix2 n k)

/-- The sums, off the arguments. -/
theorem Hm_apply (c : Dev nD) (n : Fin 1536) (k : Fin 14336) :
    Hm m c n k = rowsAt (m ((c : Thread nD τ).loc main_arg0)) n k + rowsAt (m ((c : Thread nD τ).loc main_arg1)) n k := by
  have hn := n.isLt
  have e : rowOf (pt (n.val / 128)) (⟨n.val % 128, Nat.mod_lt _ (by decide)⟩ : Fin 128) = n := Fin.ext (by
    show 128 * (n.val / 128 % 12) + n.val % 128 = n.val
    omega)
  have h0 : iblk m c 0 (pt (n.val / 128)) (ix2 (⟨n.val % 128, Nat.mod_lt _ (by decide)⟩ : Fin 128) k : S128x14336.Idx) = V m c main_v0 (ix2 n k : S1536x14336.Idx) := by
    show V m c main_v0 (((cfg0.win 0).blk (pt (n.val / 128))).view.emb (ix2 (⟨n.val % 128, Nat.mod_lt _ (by decide)⟩ : Fin 128) k : S128x14336.Idx)) = _
    rw [emb0, e]
  have h1 : iblk m c 1 (pt (n.val / 128)) (ix2 (⟨n.val % 128, Nat.mod_lt _ (by decide)⟩ : Fin 128) k : S128x14336.Idx) = V m c main_v1 (ix2 n k : S1536x14336.Idx) := by
    show V m c main_v1 (((cfg0.win 1).blk (pt (n.val / 128))).view.emb (ix2 (⟨n.val % 128, Nat.mod_lt _ (by decide)⟩ : Fin 128) k : S128x14336.Idx)) = _
    rw [emb1, e]
  unfold rowsAt
  rw [← V_main_v0, ← V_main_v1, ← h0, ← h1]
  rfl

/-- The run: the five results and the arguments. -/
theorem run_out (hG : ∀ c k, GammaOk (Gm m c k)) : θ_run defs (onTc (τ := τ) (main (F := Ideal))) ⟨m, fun _ => 0, ρ⟩ (fun r => ∀ c : Dev nD,
      r.2.mem ((c.tc : Thread nD τ).loc main_v3_0) = G3 m c
      ∧ r.2.mem ((c.tc : Thread nD τ).loc main_v3_1) = G4 m c
      ∧ r.2.mem ((c.tc : Thread nD τ).loc main_v4) = O5 m c
      ∧ r.2.mem ((c.tc : Thread nD τ).loc main_v3_3) = G6 m c
      ∧ r.2.mem ((c.tc : Thread nD τ).loc main_v5) = O7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (arr3 m c), ((h.1 c).1 4).trans (arr4 m c (hG c)),
      (((h.1 c).2 main_v4 (Pipeline.mem_restRefs_of main_v4 (by decide) (by decide))).trans (W_main_v4 m c)).trans
        ((congrArg (fun z => transpose S1536x112 [1, 0] z transposes_S112x1536_S1536x112_1_0) (arr5 m c (hG c))).trans (tr5 m c)),
      ((h.1 c).1 6).trans (arr6 m c (hG c)),
      (((h.1 c).2 main_v5 (Pipeline.mem_restRefs_of main_v5 (by decide) (by decide))).trans (W_main_v5 m c)).trans
        ((congrArg (fun z => transpose S14336x12 [1, 0] z transposes_S12x14336_S14336x12_1_0) (arr7 m c (hG c))).trans (tr7 m c)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩) (run_main m ρ)

end Cert.KernelIdeal.Hand

end

end
-- ==== Proof.RefRun.lean ====
/- The reference's host results, as functions of its arguments. -/
module

public import proofs.«01_k».proof.Proof.Gen.ReferenceIdeal.Value

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The sums. -/
def rH (a b : Vec F S2x768x14336 .bf16) : Vec F S1536x14336 .bf16 :=
  shapeCast S1536x14336 (truncf .bf16 (addf (extf .f32 a bitsLt_bf16_f32) (extf .f32 b bitsLt_bf16_f32)) bitsLt_bf16_f32 : Vec F S2x768x14336 .bf16)
    shapeCasts_S2x768x14336_S1536x14336

/-- The rows' factors. -/
def rRstd (h : Vec F S1536x14336 .bf16) : Vec F S1536x1 .f32 :=
  Host.rsqrt (addf
    (Host.divf
      (broadcastInDim S1536x1 ![0] bcast_S1536_S1536x1_0
        (Host.reduceAdd (mulf (extf .f32 h bitsLt_bf16_f32) (extf .f32 h bitsLt_bf16_f32)) (constant S_ .f32 0x00000000#32) reducesTo_S1536x14336_S1536_d1 h_S_))
      (broadcastInDim S1536x1 ![] bcast_S_S1536x1 (constant S_ .f32 0x46600000#32)))
    (broadcastInDim S1536x1 ![] bcast_S_S1536x1 (constant S_ .f32 0x358637BD#32)))

/-- The normalised values. -/
def rY (h : Vec F S1536x14336 .bf16) (g : Vec F S14336 .f32) : Vec F S1536x14336 .f32 :=
  mulf (mulf (extf .f32 h bitsLt_bf16_f32) (broadcastInDim S1536x14336 ![0, 1] bcast_S1536x1_S1536x14336_0_1 (rRstd h)))
    (broadcastInDim S1536x14336 ![0, 1] bcast_S1x14336_S1536x14336_0_1 (broadcastInDim S1x14336 ![1] bcast_S14336_S1x14336_1 g))

/-- The powers of two. -/
def rTable : Vec F S253 .f32 :=
  Host.powf (broadcastInDim S253 ![] bcast_S_S253 (constant S_ .f32 0x40000000#32))
    (addf (broadcastInDim S253 ![] bcast_S_S253 (constant S_ .f32 0xC2FA0000#32)) (sitofp .f32 (iotaInDim S253 32 0)))

/-- The groups of the rows, -/
def rG (y : Vec F S1536x14336 .f32) : Vec F S1536x112x128 .f32 := shapeCast S1536x112x128 y shapeCasts_S1536x14336_S1536x112x128

/-- their scale arguments, -/
def rQ (g : Vec F S1536x112x128 .f32) : Vec F S1536x112 .f32 :=
  mulf (Host.reduce FloatOps.maximumf (Host.absf g) (constant S_ .f32 0xFF800000#32) reducesTo_S1536x112x128_S1536x112_d2 h_S_)
    (broadcastInDim S1536x112 ![] bcast_S_S1536x112 (constant S_ .f32 0x3B124925#32))

/-- their scales, -/
def rS (q : Vec F S1536x112 .f32) : Vec F S1536x112 .f32 :=
  select (cmpf .olt q (broadcastInDim S1536x112 ![] bcast_S_S1536x112 (constant S_ .f32 0x00800000#32)))
    (broadcastInDim S1536x112 ![] bcast_S_S1536x112 (constant S_ .f32 0x3F800000#32))
    (Host.reduce FloatOps.minimumf
      (select
        (cmpf .ogt
          (broadcastInDim S1536x112x253 ![0, 1, 2] bcast_S1x1x253_S1536x112x253_0_1_2 (broadcastInDim S1x1x253 ![2] bcast_S253_S1x1x253_2 (rTable : Vec F S253 .f32)))
          (broadcastInDim S1536x112x253 ![0, 1, 2] bcast_S1536x112x1_S1536x112x253_0_1_2 (broadcastInDim S1536x112x1 ![0, 1] bcast_S1536x112_S1536x112x1_0_1 q)))
        (broadcastInDim S1536x112x253 ![2] bcast_S253_S1536x112x253_2 (rTable : Vec F S253 .f32))
        (broadcastInDim S1536x112x253 ![] bcast_S_S1536x112x253 (constant S_ .f32 0x7F800000#32)))
      (constant S_ .f32 0x7F800000#32) reducesTo_S1536x112x253_S1536x112_d2 h_S_)

/-- and their codes before the cast. -/
def rC (g : Vec F S1536x112x128 .f32) (s : Vec F S1536x112 .f32) : Vec F S1536x112x128 .f32 :=
  minimumf (broadcastInDim S1536x112x128 ![] bcast_S_S1536x112x128 (constant S_ .f32 0x43E00000#32))
    (maximumf (broadcastInDim S1536x112x128 ![] bcast_S_S1536x112x128 (constant S_ .f32 0xC3E00000#32))
      (mulf g (broadcastInDim S1536x112x128 ![0, 1, 2] bcast_S1536x112x1_S1536x112x128_0_1_2
        (broadcastInDim S1536x112x1 ![0, 1] bcast_S1536x112_S1536x112x1_0_1
          (Host.divf (broadcastInDim S1536x112 ![] bcast_S_S1536x112 (constant S_ .f32 0x3F800000#32)) s)))))

/-- The groups of the columns, -/
def kG (y : Vec F S1536x14336 .f32) : Vec F S14336x12x128 .f32 :=
  shapeCast S14336x12x128 (transpose S14336x1536 [1, 0] y transposes_S1536x14336_S14336x1536_1_0) shapeCasts_S14336x1536_S14336x12x128

/-- their scale arguments, -/
def kQ (g : Vec F S14336x12x128 .f32) : Vec F S14336x12 .f32 :=
  mulf (Host.reduce FloatOps.maximumf (Host.absf g) (constant S_ .f32 0xFF800000#32) reducesTo_S14336x12x128_S14336x12_d2 h_S_)
    (broadcastInDim S14336x12 ![] bcast_S_S14336x12 (constant S_ .f32 0x3B124925#32))

/-- their scales, -/
def kS (q : Vec F S14336x12 .f32) : Vec F S14336x12 .f32 :=
  select (cmpf .olt q (broadcastInDim S14336x12 ![] bcast_S_S14336x12 (constant S_ .f32 0x00800000#32)))
    (broadcastInDim S14336x12 ![] bcast_S_S14336x12 (constant S_ .f32 0x3F800000#32))
    (Host.reduce FloatOps.minimumf
      (select
        (cmpf .ogt
          (broadcastInDim S14336x12x253 ![0, 1, 2] bcast_S1x1x253_S14336x12x253_0_1_2 (broadcastInDim S1x1x253 ![2] bcast_S253_S1x1x253_2 (rTable : Vec F S253 .f32)))
          (broadcastInDim S14336x12x253 ![0, 1, 2] bcast_S14336x12x1_S14336x12x253_0_1_2 (broadcastInDim S14336x12x1 ![0, 1] bcast_S14336x12_S14336x12x1_0_1 q)))
        (broadcastInDim S14336x12x253 ![2] bcast_S253_S14336x12x253_2 (rTable : Vec F S253 .f32))
        (broadcastInDim S14336x12x253 ![] bcast_S_S14336x12x253 (constant S_ .f32 0x7F800000#32)))
      (constant S_ .f32 0x7F800000#32) reducesTo_S14336x12x253_S14336x12_d2 h_S_)

/-- and their codes before the cast. -/
def kC (g : Vec F S14336x12x128 .f32) (s : Vec F S14336x12 .f32) : Vec F S14336x12x128 .f32 :=
  minimumf (broadcastInDim S14336x12x128 ![] bcast_S_S14336x12x128 (constant S_ .f32 0x43E00000#32))
    (maximumf (broadcastInDim S14336x12x128 ![] bcast_S_S14336x12x128 (constant S_ .f32 0xC3E00000#32))
      (mulf g (broadcastInDim S14336x12x128 ![0, 1, 2] bcast_S14336x12x1_S14336x12x128_0_1_2
        (broadcastInDim S14336x12x1 ![0, 1] bcast_S14336x12_S14336x12x1_0_1
          (Host.divf (broadcastInDim S14336x12 ![] bcast_S_S14336x12 (constant S_ .f32 0x3F800000#32)) s)))))

variable (m : (ℓ : Loc nD τ sig) → Buf (Elt F) ℓ) (c : Dev nD)

/-- The arguments. -/
def A0 : Vec F S2x768x14336 .bf16 := m ((c : Thread nD τ).loc main_arg0)
def A1 : Vec F S2x768x14336 .bf16 := m ((c : Thread nD τ).loc main_arg1)
def A2 : Vec F S14336 .f32 := m ((c : Thread nD τ).loc main_arg2)

/-- The values of the arguments. -/
def Yv : Vec F S1536x14336 .f32 := rY (rH (A0 m c) (A1 m c)) (A2 m c)

theorem V_main_v4 : V m c main_v4 = rH (A0 m c) (A1 m c) := by
  unfold V
  simp only [List.flatten_cons, List.flatten_nil, List.append_nil, List.cons_append, List.nil_append]
  after_results_simp
  rfl

theorem V_main_v38 : V m c main_v38 = rS (rQ (rG (Yv m c))) := by
  unfold V
  simp only [List.flatten_cons, List.flatten_nil, List.append_nil, List.cons_append, List.nil_append]
  after_results_simp
  simp -implicitDefEqProofs only [StableHlo.TRef.toBuf, StableHlo.TRef.ofBuf, cast_cast, cast_eq]
  rfl

theorem V_main_v66 : V m c main_v66 = kS (kQ (kG (Yv m c))) := by
  unfold V
  simp only [List.flatten_cons, List.flatten_nil, List.append_nil, List.cons_append, List.nil_append]
  after_results_simp
  simp -implicitDefEqProofs only [StableHlo.TRef.toBuf, StableHlo.TRef.ofBuf, cast_cast, cast_eq]
  rfl

theorem V_main_v45 : V m c main_v45 = shapeCast S1536x14336 (rC (rG (Yv m c)) (rS (rQ (rG (Yv m c))))) shapeCasts_S1536x112x128_S1536x14336 := by
  unfold V
  simp only [List.flatten_cons, List.flatten_nil, List.append_nil, List.cons_append, List.nil_append]
  after_results_simp
  simp -implicitDefEqProofs only [StableHlo.TRef.toBuf, StableHlo.TRef.ofBuf, cast_cast, cast_eq]
  rfl

theorem V_main_v73 : V m c main_v73 = shapeCast S14336x1536 (kC (kG (Yv m c)) (kS (kQ (kG (Yv m c))))) shapeCasts_S14336x12x128_S14336x1536 := by
  unfold V
  simp only [List.flatten_cons, List.flatten_nil, List.append_nil, List.cons_append, List.nil_append]
  after_results_simp
  simp -implicitDefEqProofs only [StableHlo.TRef.toBuf, StableHlo.TRef.ofBuf, cast_cast, cast_eq]
  rfl

end Cert.ReferenceIdeal.Hand

end

end
-- ==== Proof.RefVal.lean ====
/- The reference's host results at `Ideal`, an element at a time. -/
module

public import proofs.«01_k».proof.Proof.Spec
public import proofs.«01_k».proof.Proof.RefRun
public import Idealize.ShloMosaic.Lib.ValueIdx
public import Idealize.ShloMosaic.Lib.ValueLayout
public import Idealize.ShloMosaic.Lib.IdealHost

@[expose] public section

set_option maxRecDepth 16384

noncomputable section

namespace Cert.ReferenceIdeal.Hand

open Cert.ReferenceIdeal Cert.ReferenceIdeal.Gen Idealize.ShloMosaic Idealize.ShloMosaic.ValueIdx
open Cert.Hand
open scoped BigOperators

/-! ## Reductions and layouts at any extents -/

section Any

variable {n0 n1 : ℕ}

theorem select_dec {α : Type} (P : Prop) [Decidable P] (a b : α) : Scalar.select (BitVec.ofBool (decide P)) a b = if P then a else b := by
  by_cases h : P
  · rw [if_pos h, decide_eq_true h]; exact select_one a b
  · rw [if_neg h, decide_eq_false h]; exact select_zero a b

theorem num_one : num 0x3F800000#32 = 1 := Ideal.ofBits_one_f32

theorem lift_ix3 {k : ℕ} (h : (⟨3, ![n0, n1, k]⟩ : Shape).Reduces [2] ⟨2, ![n0, n1]⟩) (a : Fin n0) (b : Fin n1) (j : Fin k) :
    h.lift (ix2 a b) j = ix3 a b j := by
  funext x; apply Fin.ext
  match x with
  | ⟨0, _⟩ => rfl
  | ⟨1, _⟩ => rfl
  | ⟨2, _⟩ => rfl

theorem max_apply (x : FVec Ideal ⟨3, ![n0, n1, 128]⟩ .f32) (h' : (⟨3, ![n0, n1, 128]⟩ : Shape).ReducesTo [2] ⟨2, ![n0, n1]⟩)
    (h : (⟨3, ![n0, n1, 128]⟩ : Shape).Reduces [2] ⟨2, ![n0, n1]⟩) (hu : 0 < S_.numel) (a : Fin n0) (b : Fin n1) :
    Host.reduce FloatOps.maximumf (Host.absf x) (constant S_ .f32 0xFF800000#32) h' hu (ix2 a b) = amaxS fun j => x (ix3 a b j) := by
  refine (Host.reduce_eq_fold_single FloatOps.maximumf (Host.absf x) _ h' h hu (ix2 a b)).trans ?_
  unfold amaxS
  refine congrArg (fun f => (Finset.univ : Finset (Fin 128)).fold max _ f) (funext fun j => ?_)
  exact congrArg (fun i => max (x i) (-(x i))) (lift_ix3 h a b j)

theorem min_apply (x : FVec Ideal ⟨3, ![n0, n1, 253]⟩ .f32) (h' : (⟨3, ![n0, n1, 253]⟩ : Shape).ReducesTo [2] ⟨2, ![n0, n1]⟩)
    (h : (⟨3, ![n0, n1, 253]⟩ : Shape).Reduces [2] ⟨2, ![n0, n1]⟩) (hu : 0 < S_.numel) (a : Fin n0) (b : Fin n1) (f : Fin 253 → EReal)
    (hf : ∀ k, x (ix3 a b k) = f k) :
    Host.reduce FloatOps.minimumf x (constant S_ .f32 0x7F800000#32) h' hu (ix2 a b) = (Finset.univ : Finset (Fin 253)).fold min ⊤ f := by
  refine (Host.reduce_eq_fold_single FloatOps.minimumf x _ h' h hu (ix2 a b)).trans ?_
  rw [← num_top]
  refine congrArg (fun f => (Finset.univ : Finset (Fin 253)).fold min _ f) (funext fun k => ?_)
  exact (congrArg x (lift_ix3 h a b k)).trans (hf k)

end Any

/-! ## The rows' factors and the values -/

theorem rTable_apply (k : Fin 253) : (rTable : Vec Ideal S253 .f32) (ix1 k) = tableR k := by
  have h1 : (rTable : Vec Ideal S253 .f32) (ix1 k) = Ideal.pow (num 0x40000000#32) (num 0xC2FA0000#32 + (((BitVec.ofNat 32 k.val).toInt : ℝ) : EReal)) := rfl
  have h2 : (BitVec.ofNat 32 k.val).toInt = (k.val : ℤ) := by
    clear h1; revert k; decide +kernel
  rw [h1, h2, num_two, num_125]
  unfold tableR
  rw [Int.cast_natCast]

section Rows

variable (h : Vec Ideal S1536x14336 .bf16) (g : Vec Ideal S14336 .f32)

/-- The sums by row and column. -/
def hr (n : Fin 1536) : Fin 14336 → EReal := fun k => h (ix2 n k)

/-- The weights. -/
def gr (k : Fin 14336) : EReal := g (ix1 k)

theorem rRstd_apply (n : Fin 1536) : rRstd h (ix2 n 0) = rstdS (hr h n) := by
  unfold rstdS
  have e : broadcastInDim S1536x1 ![0] bcast_S1536_S1536x1_0
      (Host.reduceAdd (F := Ideal) (mulf (extf .f32 h bitsLt_bf16_f32) (extf .f32 h bitsLt_bf16_f32)) (constant S_ .f32 0x00000000#32) reducesTo_S1536x14336_S1536_d1 h_S_) (ix2 n 0)
      = ∑ k, hr h n k * hr h n k := by
    rw [broadcastInDim_apply _ _ _ _ (ix1 n) (fun a => by match a with | ⟨0, _⟩ => rfl), hostReduceAdd_apply,
      Ideal.hostReduceAdd_single _ (by decide : S1536x14336.Reduces [1] S1536)]
    rw [show (constant S_ .f32 0x00000000#32 : FVec Ideal S_ .f32) (Shape.Idx.first h_S_) = 0 from Ideal.ofBits_zero_f32, zero_add]
    refine Finset.sum_congr rfl fun k _ => ?_
    have hl : (by decide : S1536x14336.Reduces [1] S1536).lift (ix1 n) k = ix2 n k := by
      funext x; apply Fin.ext
      match x with
      | ⟨0, _⟩ => rfl
      | ⟨1, _⟩ => rfl
    rw [hl]; rfl
  show Ideal.rsqrt (Ideal.div (broadcastInDim _ _ _ _ _) _ + _) = _
  rw [e]; rfl

theorem rY_apply (n : Fin 1536) (k : Fin 14336) : rY h g (ix2 n k) = yS (hr h n) k (gr g k) := by
  unfold rY yS
  rw [mulf_apply, mulf_apply,
    broadcastInDim_apply _ bcast_S1536x1_S1536x14336_0_1 _ (ix2 n k) (ix2 n 0) (fun a => by match a with | ⟨0, _⟩ => rfl | ⟨1, _⟩ => rfl),
    broadcastInDim_apply _ bcast_S1x14336_S1536x14336_0_1 _ (ix2 n k) (ix2 0 k) (fun a => by match a with | ⟨0, _⟩ => rfl | ⟨1, _⟩ => rfl),
    broadcastInDim_apply _ bcast_S14336_S1x14336_1 _ (ix2 0 k) (ix1 k) (fun a => by match a with | ⟨0, _⟩ => rfl), rRstd_apply]
  rfl

end Rows

/-! ## Row groups -/

theorem rG_apply (y : Vec Ideal S1536x14336 .f32) (n : Fin 1536) (b : Fin 112) (j : Fin 128) :
    rG y (ix3 n b j) = y (ix2 n ⟨128 * b.val + j.val, by omega⟩) := by
  unfold rG
  refine shapeCast_apply _ _ _ _ ?_
  rw [Shape.rowMajor_val_three, Shape.rowMajor_val_two]
  show n.val * 14336 + (128 * b.val + j.val) = (n.val * 112 + b.val) * 128 + j.val
  omega

theorem rQ_apply (g : Vec Ideal S1536x112x128 .f32) (n : Fin 1536) (b : Fin 112) : rQ g (ix2 n b) = qS fun j => g (ix3 n b j) := by
  unfold rQ qS
  rw [mulf_apply, max_apply _ _ (by decide)]
  rfl

theorem rS_apply (q : Vec Ideal S1536x112 .f32) (n : Fin 1536) (b : Fin 112) : rS q (ix2 n b) = scaleR (q (ix2 n b)) := by
  unfold rS scaleR
  rw [select_apply, min_apply _ _ (by decide) _ n b (fun k => if q (ix2 n b) < tableR k then tableR k else ⊤) (fun k => ?_)]
  · rw [← num_one]
    exact select_dec (q (ix2 n b) < num 0x00800000#32) _ _
  · rw [select_apply, cmpf_apply,
      broadcastInDim_apply _ bcast_S1x1x253_S1536x112x253_0_1_2 _ (ix3 n b k) (ix3 0 0 k) (fun a => by match a with | ⟨0, _⟩ => rfl | ⟨1, _⟩ => rfl | ⟨2, _⟩ => rfl),
      broadcastInDim_apply _ bcast_S253_S1x1x253_2 _ (ix3 0 0 k) (ix1 k) (fun a => by match a with | ⟨0, _⟩ => rfl),
      broadcastInDim_apply _ bcast_S1536x112x1_S1536x112x253_0_1_2 _ (ix3 n b k) (ix3 n b 0) (fun a => by match a with | ⟨0, _⟩ => rfl | ⟨1, _⟩ => rfl | ⟨2, _⟩ => rfl),
      broadcastInDim_apply _ bcast_S1536x112_S1536x112x1_0_1 _ (ix3 n b 0) (ix2 n b) (fun a => by match a with | ⟨0, _⟩ => rfl | ⟨1, _⟩ => rfl),
      broadcastInDim_apply _ bcast_S253_S1536x112x253_2 _ (ix3 n b k) (ix1 k) (fun a => by match a with | ⟨0, _⟩ => rfl), rTable_apply, ← num_top]
    exact select_dec (q (ix2 n b) < tableR k) _ _

theorem rC_apply (g : Vec Ideal S1536x112x128 .f32) (s : Vec Ideal S1536x112 .f32) (n : Fin 1536) (b : Fin 112) (j : Fin 128) :
    rC g s (ix3 n b j) = clipS (g (ix3 n b j) * Ideal.div 1 (s (ix2 n b))) := by
  unfold rC
  rw [minimumf_apply, maximumf_apply, mulf_apply,
    broadcastInDim_apply _ bcast_S1536x112x1_S1536x112x128_0_1_2 _ (ix3 n b j) (ix3 n b 0) (fun a => by match a with | ⟨0, _⟩ => rfl | ⟨1, _⟩ => rfl | ⟨2, _⟩ => rfl),
    broadcastInDim_apply _ bcast_S1536x112_S1536x112x1_0_1 _ (ix3 n b 0) (ix2 n b) (fun a => by match a with | ⟨0, _⟩ => rfl | ⟨1, _⟩ => rfl), hostDivf_apply, ← num_one]
  rfl

/-! ## Column groups -/

theorem kG_apply (y : Vec Ideal S1536x14336 .f32) (k : Fin 14336) (b : Fin 12) (j : Fin 128) :
    kG y (ix3 k b j) = y (ix2 ⟨128 * b.val + j.val, by omega⟩ k) := by
  unfold kG
  refine (shapeCast_apply _ _ _ (ix2 k (⟨128 * b.val + j.val, by omega⟩ : Fin 1536)) ?_).trans (transpose_ix2_apply _ _ _ _)
  rw [Shape.rowMajor_val_three, Shape.rowMajor_val_two]
  show k.val * 1536 + (128 * b.val + j.val) = (k.val * 12 + b.val) * 128 + j.val
  omega

theorem kQ_apply (g : Vec Ideal S14336x12x128 .f32) (n : Fin 14336) (b : Fin 12) : kQ g (ix2 n b) = qS fun j => g (ix3 n b j) := by
  unfold kQ qS
  rw [mulf_apply, max_apply _ _ (by decide)]
  rfl

theorem kS_apply (q : Vec Ideal S14336x12 .f32) (n : Fin 14336) (b : Fin 12) : kS q (ix2 n b) = scaleR (q (ix2 n b)) := by
  unfold kS scaleR
  rw [select_apply, min_apply _ _ (by decide) _ n b (fun k => if q (ix2 n b) < tableR k then tableR k else ⊤) (fun k => ?_)]
  · rw [← num_one]
    exact select_dec (q (ix2 n b) < num 0x00800000#32) _ _
  · rw [select_apply, cmpf_apply,
      broadcastInDim_apply _ bcast_S1x1x253_S14336x12x253_0_1_2 _ (ix3 n b k) (ix3 0 0 k) (fun a => by match a with | ⟨0, _⟩ => rfl | ⟨1, _⟩ => rfl | ⟨2, _⟩ => rfl),
      broadcastInDim_apply _ bcast_S253_S1x1x253_2 _ (ix3 0 0 k) (ix1 k) (fun a => by match a with | ⟨0, _⟩ => rfl),
      broadcastInDim_apply _ bcast_S14336x12x1_S14336x12x253_0_1_2 _ (ix3 n b k) (ix3 n b 0) (fun a => by match a with | ⟨0, _⟩ => rfl | ⟨1, _⟩ => rfl | ⟨2, _⟩ => rfl),
      broadcastInDim_apply _ bcast_S14336x12_S14336x12x1_0_1 _ (ix3 n b 0) (ix2 n b) (fun a => by match a with | ⟨0, _⟩ => rfl | ⟨1, _⟩ => rfl),
      broadcastInDim_apply _ bcast_S253_S14336x12x253_2 _ (ix3 n b k) (ix1 k) (fun a => by match a with | ⟨0, _⟩ => rfl), rTable_apply, ← num_top]
    exact select_dec (q (ix2 n b) < tableR k) _ _

theorem kC_apply (g : Vec Ideal S14336x12x128 .f32) (s : Vec Ideal S14336x12 .f32) (n : Fin 14336) (b : Fin 12) (j : Fin 128) :
    kC g s (ix3 n b j) = clipS (g (ix3 n b j) * Ideal.div 1 (s (ix2 n b))) := by
  unfold kC
  rw [minimumf_apply, maximumf_apply, mulf_apply,
    broadcastInDim_apply _ bcast_S14336x12x1_S14336x12x128_0_1_2 _ (ix3 n b j) (ix3 n b 0) (fun a => by match a with | ⟨0, _⟩ => rfl | ⟨1, _⟩ => rfl | ⟨2, _⟩ => rfl),
    broadcastInDim_apply _ bcast_S14336x12_S14336x12x1_0_1 _ (ix3 n b 0) (ix2 n b) (fun a => by match a with | ⟨0, _⟩ => rfl | ⟨1, _⟩ => rfl), hostDivf_apply, ← num_one]
  rfl

/-! ## The results -/

section Results

variable (h : Vec Ideal S1536x14336 .bf16) (g : Vec Ideal S14336 .f32)

theorem rowGroup (n : Fin 1536) (b : Fin 112) : (fun j => rG (rY h g) (ix3 n b j)) = rowG (hr h) (gr g) n b :=
  funext fun j => (rG_apply _ n b j).trans (rY_apply h g n _)

theorem colGroup (k : Fin 14336) (b : Fin 12) : (fun j => kG (rY h g) (ix3 k b j)) = colG (hr h) (gr g) b k :=
  funext fun j => (kG_apply _ k b j).trans (rY_apply h g _ k)

theorem rowScale_apply (n : Fin 1536) (b : Fin 112) : rS (rQ (rG (rY h g))) (ix2 n b) = scaleRow (hr h) (gr g) n b := by
  rw [rS_apply, rQ_apply, rowGroup]; rfl

theorem colScale_apply (k : Fin 14336) (b : Fin 12) : kS (kQ (kG (rY h g))) (ix2 k b) = scaleCol (hr h) (gr g) k b := by
  rw [kS_apply, kQ_apply, colGroup]; rfl

theorem rowCode_apply (n : Fin 1536) (k : Fin 14336) :
    shapeCast S1536x14336 (rC (rG (rY h g)) (rS (rQ (rG (rY h g))))) shapeCasts_S1536x112x128_S1536x14336 (ix2 n k) = codeRow (hr h) (gr g) n k := by
  have hk := k.isLt
  rw [shapeCast_apply _ _ (ix2 n k) (ix3 n (⟨k.val / 128, by omega⟩ : Fin 112) (⟨k.val % 128, by omega⟩ : Fin 128)) (by
    rw [Shape.rowMajor_val_three, Shape.rowMajor_val_two]
    show (n.val * 112 + k.val / 128) * 128 + k.val % 128 = n.val * 14336 + k.val
    omega), rC_apply, rowScale_apply, rG_apply, rY_apply]
  unfold codeRow codeS scaleRow Y
  refine congrArg (fun z => clipS (yS (hr h n) z (gr g z) * _)) (Fin.ext ?_)
  show 128 * (k.val / 128) + k.val % 128 = k.val
  omega

theorem colCode_apply (k : Fin 14336) (n : Fin 1536) :
    shapeCast S14336x1536 (kC (kG (rY h g)) (kS (kQ (kG (rY h g))))) shapeCasts_S14336x12x128_S14336x1536 (ix2 k n) = codeCol (hr h) (gr g) k n := by
  have hn := n.isLt
  rw [shapeCast_apply _ _ (ix2 k n) (ix3 k (⟨n.val / 128, by omega⟩ : Fin 12) (⟨n.val % 128, by omega⟩ : Fin 128)) (by
    rw [Shape.rowMajor_val_three, Shape.rowMajor_val_two]
    show (k.val * 12 + n.val / 128) * 128 + n.val % 128 = k.val * 1536 + n.val
    omega), kC_apply, colScale_apply, kG_apply, rY_apply]
  unfold codeCol codeS scaleCol Y
  refine congrArg (fun z => clipS (yS (hr h z) k (gr g k) * _)) (Fin.ext ?_)
  show 128 * (n.val / 128) + n.val % 128 = n.val
  omega

end Results

end Cert.ReferenceIdeal.Hand

end

end
-- ==== Proof.RefOut.lean ====
/- The reference's run with its five results named. -/
module

public import proofs.«01_k».proof.Proof.RefVal
public import proofs.«01_k».proof.Proof.Gen.ReferenceIdeal.Value
public import Idealize.ShloMosaic.Lib.Pipeline.ValueKit.Geometry

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.ValueIdx
open Idealize.SL Idealize.SL.Sem
open Cert.Hand

variable (m : (ℓ : Loc nD τ sig) → Buf (Elt Ideal) ℓ) (ρ : Dev nD → PrngReg)

/-- The sums of the arguments, -/
def HR (c : Dev nD) : Fin 1536 → Fin 14336 → EReal := hr (rH (A0 m c) (A1 m c))
/-- and the weights. -/
def GR (c : Dev nD) : Fin 14336 → EReal := gr (A2 m c)

/-- The sums, -/
def R0 (c : Dev nD) : Vec Ideal S1536x14336 .bf16 := fun i => HR m c ⟨(i 0).val, (i 0).isLt⟩ ⟨(i 1).val, (i 1).isLt⟩
/-- the row codes, -/
def R1 (c : Dev nD) : Vec Ideal S1536x14336 .fp8e4m3 := fun i => codeRow (HR m c) (GR m c) ⟨(i 0).val, (i 0).isLt⟩ ⟨(i 1).val, (i 1).isLt⟩
/-- the row scales, -/
def R2 (c : Dev nD) : Vec Ideal S1536x112 .f32 := fun i => scaleRow (HR m c) (GR m c) ⟨(i 0).val, (i 0).isLt⟩ ⟨(i 1).val, (i 1).isLt⟩
/-- the column codes, -/
def R3 (c : Dev nD) : Vec Ideal S14336x1536 .fp8e4m3 := fun i => codeCol (HR m c) (GR m c) ⟨(i 0).val, (i 0).isLt⟩ ⟨(i 1).val, (i 1).isLt⟩
/-- the column scales. -/
def R4 (c : Dev nD) : Vec Ideal S14336x12 .f32 := fun i => scaleCol (HR m c) (GR m c) ⟨(i 0).val, (i 0).isLt⟩ ⟨(i 1).val, (i 1).isLt⟩

theorem V4_eq (c : Dev nD) : V m c main_v4 = R0 m c := by
  rw [V_main_v4]
  funext i
  obtain ⟨n, k, rfl⟩ : ∃ (n : Fin 1536) (k : Fin 14336), i = ix2 n k := ⟨_, _, eq_ix2 i⟩
  rfl

theorem V38_eq (c : Dev nD) : V m c main_v38 = R2 m c := by
  rw [V_main_v38]
  funext i
  obtain ⟨n, b, rfl⟩ : ∃ (n : Fin 1536) (b : Fin 112), i = ix2 n b := ⟨_, _, eq_ix2 i⟩
  exact rowScale_apply _ _ n b

theorem V66_eq (c : Dev nD) : V m c main_v66 = R4 m c := by
  rw [V_main_v66]
  funext i
  obtain ⟨k, b, rfl⟩ : ∃ (k : Fin 14336) (b : Fin 12), i = ix2 k b := ⟨_, _, eq_ix2 i⟩
  exact colScale_apply _ _ k b

theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])

theorem emb0 (t : Fin cfg0.N) (n : Fin 1536) (k : Fin 14336) : ((cfg0.win 0).blk t).view.emb (ix2 n k : S1536x14336.Idx) = (ix2 n k : S1536x14336.Idx) := by
  funext a; apply Fin.ext
  match a with
  | ⟨0, _⟩ => show win0_0.index t (0 : Fin 2) * 1536 + 1 * n.val = n.val; rw [index_0]; show 0 * 1536 + 1 * n.val = _; omega
  | ⟨1, _⟩ => show win0_0.index t (1 : Fin 2) * 14336 + 1 * k.val = k.val; rw [index_0]; show 0 * 14336 + 1 * k.val = _; omega

theorem emb1 (t : Fin cfg0.N) (k : Fin 14336) (n : Fin 1536) : ((cfg0.win 1).blk t).view.emb (ix2 k n : S14336x1536.Idx) = (ix2 k n : S14336x1536.Idx) := by
  funext a; apply Fin.ext
  match a with
  | ⟨0, _⟩ => show win0_1.index t (0 : Fin 2) * 14336 + 1 * k.val = k.val; rw [index_1]; show 0 * 14336 + 1 * k.val = _; omega
  | ⟨1, _⟩ => show win0_1.index t (1 : Fin 2) * 1536 + 1 * n.val = n.val; rw [index_1]; show 0 * 1536 + 1 * n.val = _; omega

theorem emb2 (t : Fin cfg0.N) (n : Fin 1536) (k : Fin 14336) : ((cfg0.win 2).blk t).view.emb (ix2 n k : S1536x14336.Idx) = (ix2 n k : S1536x14336.Idx) := by
  funext a; apply Fin.ext
  match a with
  | ⟨0, _⟩ => show win0_2.index t (0 : Fin 2) * 1536 + 1 * n.val = n.val; rw [index_2]; show 0 * 1536 + 1 * n.val = _; omega
  | ⟨1, _⟩ => show win0_2.index t (1 : Fin 2) * 14336 + 1 * k.val = k.val; rw [index_2]; show 0 * 14336 + 1 * k.val = _; omega

theorem emb3 (t : Fin cfg0.N) (k : Fin 14336) (n : Fin 1536) : ((cfg0.win 3).blk t).view.emb (ix2 k n : S14336x1536.Idx) = (ix2 k n : S14336x1536.Idx) := by
  funext a; apply Fin.ext
  match a with
  | ⟨0, _⟩ => show win0_3.index t (0 : Fin 2) * 14336 + 1 * k.val = k.val; rw [index_3]; show 0 * 14336 + 1 * k.val = _; omega
  | ⟨1, _⟩ => show win0_3.index t (1 : Fin 2) * 1536 + 1 * n.val = n.val; rw [index_3]; show 0 * 1536 + 1 * n.val = _; omega

theorem ld0 (x : Vec Ideal S1536x14336 .f32) (n : Fin 1536) (k : Fin 14336) : View.ld x r0_0 (ix2 n k : S1536x14336.Idx) = x (ix2 n k) := by
  refine congrArg x (funext fun a => Fin.ext ?_)
  match a with
  | ⟨0, _⟩ => show 0 + 1 * n.val = n.val; omega
  | ⟨1, _⟩ => show 0 + 1 * k.val = k.val; omega

theorem ld1 (x : Vec Ideal S14336x1536 .f32) (k : Fin 14336) (n : Fin 1536) : View.ld x r0_1 (ix2 k n : S14336x1536.Idx) = x (ix2 k n) := by
  refine congrArg x (funext fun a => Fin.ext ?_)
  match a with
  | ⟨0, _⟩ => show 0 + 1 * k.val = k.val; omega
  | ⟨1, _⟩ => show 0 + 1 * n.val = n.val; omega

theorem out2_apply (x0 : Vec Ideal S1536x14336 .f32) (x1 : Vec Ideal S14336x1536 .f32) (n : Fin 1536) (k : Fin 14336) :
    out0_2 x0 x1 (ix2 n k) = x0 (ix2 n k) := by
  unfold out0_2
  rw [Value.canon2_eq]
  have e : Value.ix2_0 (ix2 n k) = (ix2 n k : S1536x14336.Idx) := by
    funext a; apply Fin.ext
    match a with
    | ⟨0, _⟩ => rfl
    | ⟨1, _⟩ => rfl
  show View.ld x0 r0_0 (Value.ix2_0 (ix2 n k)) = _
  rw [e, ld0]

theorem out3_apply (x0 : Vec Ideal S1536x14336 .f32) (x1 : Vec Ideal S14336x1536 .f32) (k : Fin 14336) (n : Fin 1536) :
    out0_3 x0 x1 (ix2 k n) = x1 (ix2 k n) := by
  unfold out0_3
  rw [Value.canon3_eq]
  have e : Value.ix3_0 (ix2 k n) = (ix2 k n : S14336x1536.Idx) := by
    funext a; apply Fin.ext
    match a with
    | ⟨0, _⟩ => rfl
    | ⟨1, _⟩ => rfl
  show View.ld x1 r0_1 (Value.ix3_0 (ix2 k n)) = _
  rw [e, ld1]

theorem iblk0_apply (c : Dev nD) (t : Fin cfg0.N) (n : Fin 1536) (k : Fin 14336) :
    iblk m c 0 t (ix2 n k : S1536x14336.Idx) = codeRow (HR m c) (GR m c) n k := by
  have h : iblk m c 0 t (ix2 n k : S1536x14336.Idx) = V m c main_v45 (((cfg0.win 0).blk t).view.emb (ix2 n k : S1536x14336.Idx)) := rfl
  rw [h, emb0, V_main_v45]
  exact rowCode_apply _ _ n k

theorem iblk1_apply (c : Dev nD) (t : Fin cfg0.N) (k : Fin 14336) (n : Fin 1536) :
    iblk m c 1 t (ix2 k n : S14336x1536.Idx) = codeCol (HR m c) (GR m c) k n := by
  have h : iblk m c 1 t (ix2 k n : S14336x1536.Idx) = V m c main_v73 (((cfg0.win 1).blk t).view.emb (ix2 k n : S14336x1536.Idx)) := rfl
  rw [h, emb1, V_main_v73]
  exact colCode_apply _ _ k n

theorem covers2 : (cfg0.win 2).Covers := by decide +kernel
theorem covers3 : (cfg0.win 3).Covers := by decide +kernel

theorem arr2 (c : Dev nD) : (dats m 0 c).arrAt 2 cfg0.N = R1 m c := by
  refine (dats m 0 c).arrAt_eq_of_covers 2 _ covers2 fun t hf y => ?_
  obtain ⟨n, k, rfl⟩ : ∃ (n : Fin 1536) (k : Fin 14336), y = ix2 n k := ⟨_, _, eq_ix2 y⟩
  rw [emb2]
  show (dats m 0 c).after 2 t (ix2 n k : S1536x14336.Idx) = codeRow (HR m c) (GR m c) n k
  rw [after0_2]
  exact (out2_apply _ _ n k).trans (iblk0_apply m c t n k)

theorem arr3 (c : Dev nD) : (dats m 0 c).arrAt 3 cfg0.N = R3 m c := by
  refine (dats m 0 c).arrAt_eq_of_covers 3 _ covers3 fun t hf y => ?_
  obtain ⟨k, n, rfl⟩ : ∃ (k : Fin 14336) (n : Fin 1536), y = ix2 k n := ⟨_, _, eq_ix2 y⟩
  rw [emb3]
  show (dats m 0 c).after 3 t (ix2 k n : S14336x1536.Idx) = codeCol (HR m c) (GR m c) k n
  rw [after0_3]
  exact (out3_apply _ _ k n).trans (iblk1_apply m c t k n)

/-- The run: the five results and the arguments. -/
theorem run_out : θ_run defs (onTc (τ := τ) (main (F := Ideal))) ⟨m, fun _ => 0, ρ⟩ (fun r => ∀ c : Dev nD,
      r.2.mem ((c.tc : Thread nD τ).loc main_v4) = R0 m c
      ∧ r.2.mem ((c.tc : Thread nD τ).loc main_v74_0) = R1 m c
      ∧ r.2.mem ((c.tc : Thread nD τ).loc main_v38) = R2 m c
      ∧ r.2.mem ((c.tc : Thread nD τ).loc main_v74_1) = R3 m c
      ∧ r.2.mem ((c.tc : Thread nD τ).loc main_v66) = R4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v4 (Pipeline.mem_restRefs_of main_v4 (by decide) (by decide))).trans (V4_eq m c),
      (Value.post2 m r h c).trans (arr2 m c),
      ((h c).2 main_v38 (Pipeline.mem_restRefs_of main_v38 (by decide) (by decide))).trans (V38_eq m c),
      (Value.post3 m r h c).trans (arr3 m c),
      ((h c).2 main_v66 (Pipeline.mem_restRefs_of main_v66 (by decide) (by decide))).trans (V66_eq m c),
      Value.kept_main_arg0 m r h c, Value.kept_main_arg1 m r h c, Value.kept_main_arg2 m r h c⟩) (run_main m ρ)

end Cert.ReferenceIdeal.Hand

end

end
-- ==== Proof.Values.lean ====
/- The value claim: the two runs end with the same results. -/
module

public import proofs.«01_k».proof.Defs
public import proofs.«01_k».proof.Proof.KOut
public import proofs.«01_k».proof.Proof.RefOut

@[expose] public section

set_option maxRecDepth 16384

noncomputable section

namespace Cert.Hand

open Idealize.ShloMosaic Idealize.ShloMosaic.ValueIdx
open Idealize.SL Idealize.SL.Sem

/-- The precondition's shape relation. -/
theorem preFacts : Cert.Pre_gamma_bounded.Facts := ⟨by decide⟩

/-- The precondition, a weight at a time. -/
theorem gammaOk (m : (ℓ : Loc Cert.KernelIdeal.nD Cert.KernelIdeal.τ Cert.KernelIdeal.sig) → Buf (Elt Ideal) ℓ)
    (h : Cert.Pre_KernelIdeal_gamma_bounded (hPre_gamma_bounded := preFacts) m) (c : Dev Cert.KernelIdeal.nD) (k : Fin 14336) :
    GammaOk (Cert.KernelIdeal.Hand.Gm m c k) := by
  have h1 := congrFun (h c) (ix1 k)
  have h2 : BitVec.ofBool (decide (max (Cert.KernelIdeal.Hand.Gm m c k) (-(Cert.KernelIdeal.Hand.Gm m c k)) ≤ num 0x7F61B1E6#32)) = 1#1 := h1
  by_cases hp : max (Cert.KernelIdeal.Hand.Gm m c k) (-(Cert.KernelIdeal.Hand.Gm m c k)) ≤ num 0x7F61B1E6#32
  · exact hp
  · rw [decide_eq_false hp] at h2
    exact absurd h2 (by decide)

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's sums, an element at a time. -/
theorem HR_apply (n : Fin 1536) (k : Fin 14336) : Cert.ReferenceIdeal.Hand.HR m' c n k
    = Cert.KernelIdeal.Hand.rowsAt (Cert.ReferenceIdeal.Hand.A0 m' c) n k + Cert.KernelIdeal.Hand.rowsAt (Cert.ReferenceIdeal.Hand.A1 m' c) n k := rfl

theorem H_eq (h0 : Cert.ReferenceIdeal.Hand.A0 m' c = m ((c.tc : Thread Cert.KernelIdeal.nD Cert.KernelIdeal.τ).loc Cert.KernelIdeal.main_arg0))
    (h1 : Cert.ReferenceIdeal.Hand.A1 m' c = m ((c.tc : Thread Cert.KernelIdeal.nD Cert.KernelIdeal.τ).loc Cert.KernelIdeal.main_arg1)) :
    Cert.ReferenceIdeal.Hand.HR m' c = Cert.KernelIdeal.Hand.Hm m c := by
  funext n k
  rw [HR_apply, h0, h1, Cert.KernelIdeal.Hand.Hm_apply]

theorem G_eq (h2 : Cert.ReferenceIdeal.Hand.A2 m' c = m ((c.tc : Thread Cert.KernelIdeal.nD Cert.KernelIdeal.τ).loc Cert.KernelIdeal.main_arg2)) :
    Cert.ReferenceIdeal.Hand.GR m' c = Cert.KernelIdeal.Hand.Gm m c := by
  unfold Cert.ReferenceIdeal.Hand.GR
  rw [h2]; rfl

end Agree

theorem algebraic : Cert.algebraic_KernelIdeal_ReferenceIdeal_pre_gamma_bounded (hKernelIdeal := Cert.KernelIdeal.Gen.facts)
    (hReferenceIdeal := Cert.ReferenceIdeal.Gen.facts) (hPre_gamma_bounded := preFacts) := by
  intro m g m' g' hpre hargs
  refine ⟨Cert.KernelIdeal.Hand.G3 m, Cert.KernelIdeal.Hand.G4 m, Cert.KernelIdeal.Hand.O5 m, Cert.KernelIdeal.Hand.G6 m, Cert.KernelIdeal.Hand.O7 m,
    Cert.KernelIdeal.Hand.run_out m g (gammaOk m hpre), ?_⟩
  refine (θ_run _ _ _).mono (fun r h c => ?_) (Cert.ReferenceIdeal.Hand.run_out m' g')
  obtain ⟨h0, h1, h2, h3, h4, k0, k1, k2⟩ := h c
  obtain ⟨a0, a1, a2⟩ := hargs c
  have eH := H_eq m m' c a0 a1
  have eG := G_eq m m' c a2
  have e0 : Cert.ReferenceIdeal.Hand.R0 m' c = Cert.KernelIdeal.Hand.G3 m c := by
    unfold Cert.ReferenceIdeal.Hand.R0; rw [eH]; rfl
  have e1 : Cert.ReferenceIdeal.Hand.R1 m' c = Cert.KernelIdeal.Hand.G4 m c := by
    unfold Cert.ReferenceIdeal.Hand.R1; rw [eH, eG]; rfl
  have e2 : Cert.ReferenceIdeal.Hand.R2 m' c = Cert.KernelIdeal.Hand.O5 m c := by
    unfold Cert.ReferenceIdeal.Hand.R2; rw [eH, eG]; rfl
  have e3 : Cert.ReferenceIdeal.Hand.R3 m' c = Cert.KernelIdeal.Hand.G6 m c := by
    unfold Cert.ReferenceIdeal.Hand.R3; rw [eH, eG]; rfl
  have e4 : Cert.ReferenceIdeal.Hand.R4 m' c = Cert.KernelIdeal.Hand.O7 m c := by
    unfold Cert.ReferenceIdeal.Hand.R4; rw [eH, eG]; rfl
  exact ⟨h0.trans e0, h1.trans e1, h2.trans e2, h3.trans e3, h4.trans e4, k0, k1, k2⟩

end Cert.Hand

end

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.Run
public import proofs.«01_k».proof.Proof.Transport
public import proofs.«01_k».proof.Proof.Values

@[expose] public section

namespace Cert.Proof

theorem claim : Cert.Claim :=
  ⟨Cert.Kernel.Gen.facts, Cert.KernelIdeal.Gen.facts, Cert.ReferenceIdeal.Gen.facts, Cert.Hand.preFacts,
    fun m g _ => Cert.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g, trivial, Cert.Hand.algebraic⟩

end Cert.Proof

end
